-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_indices_23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_indices_23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_indices_27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S768x768 : Shape := ⟨2, ![768, 768]⟩
abbrev S768 : Shape := ⟨1, ![768]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S12x2048x2048 : Shape := ⟨3, ![12, 2048, 2048]⟩
abbrev S12x1x2048 : Shape := ⟨3, ![12, 1, 2048]⟩
abbrev S1x2048x64 : Shape := ⟨3, ![1, 2048, 64]⟩
abbrev S1x2048x2048 : Shape := ⟨3, ![1, 2048, 2048]⟩
abbrev S1x1x2048 : Shape := ⟨3, ![1, 1, 2048]⟩
abbrev S2048x64 : Shape := ⟨2, ![2048, 64]⟩
abbrev S2048x2048 : Shape := ⟨2, ![2048, 2048]⟩
abbrev S2048 : Shape := ⟨1, ![2048]⟩
abbrev S1x2048 : Shape := ⟨2, ![1, 2048]⟩
abbrev S8x2048 : Shape := ⟨2, ![8, 2048]⟩
abbrev S1x8x2048 : Shape := ⟨3, ![1, 8, 2048]⟩
abbrev S4x2048 : Shape := ⟨2, ![4, 2048]⟩
abbrev S2x2048 : Shape := ⟨2, ![2, 2048]⟩
abbrev S12x2048 : Shape := ⟨2, ![12, 2048]⟩
abbrev S_ : Shape := ⟨0, ![]⟩
abbrev S12x614 : Shape := ⟨2, ![12, 614]⟩
abbrev S12 : Shape := ⟨1, ![12]⟩
abbrev S12x1 : Shape := ⟨2, ![12, 1]⟩
abbrev S12x614x1 : Shape := ⟨3, ![12, 614, 1]⟩
abbrev S12x614x2 : Shape := ⟨3, ![12, 614, 2]⟩
abbrev S12x2048x1 : Shape := ⟨3, ![12, 2048, 1]⟩
abbrev S1x12x2048x2048 : Shape := ⟨4, ![1, 12, 2048, 2048]⟩
abbrev S1x614 : Shape := ⟨2, ![1, 614]⟩
abbrev S12x64x768 : Shape := ⟨3, ![12, 64, 768]⟩
abbrev S1x768 : Shape := ⟨2, ![1, 768]⟩
abbrev S2048x768 : Shape := ⟨2, ![2048, 768]⟩
abbrev S1x512x2048 : Shape := ⟨3, ![1, 512, 2048]⟩
abbrev S1x512x1 : Shape := ⟨3, ![1, 512, 1]⟩
abbrev S1x512x64 : Shape := ⟨3, ![1, 512, 64]⟩
abbrev S1x64x768 : Shape := ⟨3, ![1, 64, 768]⟩
abbrev S512x2048 : Shape := ⟨2, ![512, 2048]⟩
abbrev S512x1 : Shape := ⟨2, ![512, 1]⟩
abbrev S512x64 : Shape := ⟨2, ![512, 64]⟩
abbrev S64x768 : Shape := ⟨2, ![64, 768]⟩
abbrev S1x768x2048 : Shape := ⟨3, ![1, 768, 2048]⟩

abbrev nBuf : Space → Nat
  | .hbm => 123
  | .vmem => 23
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S1x2048x768, .f32⟩
  | .hbm, ⟨7, _⟩ => ⟨S1x2048x12x64, .f32⟩
  | .hbm, ⟨8, _⟩ => ⟨S1x12x2048x64, .f32⟩
  | .hbm, ⟨9, _⟩ => ⟨S12x2048x64, .f32⟩
  | .hbm, ⟨10, _⟩ => ⟨S12x2048x64, .bf16⟩
  | .hbm, ⟨11, _⟩ => ⟨S1x2048x768, .f32⟩
  | .hbm, ⟨12, _⟩ => ⟨S1x2048x12x64, .f32⟩
  | .hbm, ⟨13, _⟩ => ⟨S1x12x2048x64, .f32⟩
  | .hbm, ⟨14, _⟩ => ⟨S12x2048x64, .f32⟩
  | .hbm, ⟨15, _⟩ => ⟨S12x2048x64, .bf16⟩
  | .hbm, ⟨16, _⟩ => ⟨S1x2048x768, .f32⟩
  | .hbm, ⟨17, _⟩ => ⟨S1x2048x12x64, .f32⟩
  | .hbm, ⟨18, _⟩ => ⟨S1x12x2048x64, .f32⟩
  | .hbm, ⟨19, _⟩ => ⟨S12x2048x64, .f32⟩
  | .hbm, ⟨20, _⟩ => ⟨S12x2048x64, .bf16⟩
  | .hbm, ⟨21, _⟩ => ⟨S12x2048x2048, .f32⟩
  | .hbm, ⟨22, _⟩ => ⟨S12x1x2048, .f32⟩
  | .hbm, ⟨23, _⟩ => ⟨S12x2048, .f32⟩
  | .hbm, ⟨24, _⟩ => ⟨S12x1x2048, .f32⟩
  | .hbm, ⟨25, _⟩ => ⟨S12x2048x2048, .f32⟩
  | .hbm, ⟨26, _⟩ => ⟨S12x2048x2048, .f32⟩
  | .hbm, ⟨27, _⟩ => ⟨S_, .f32⟩
  | .hbm, ⟨28, _⟩ => ⟨S12x2048, .f32⟩
  | .hbm, ⟨29, _⟩ => ⟨S_, .f32⟩
  | .hbm, ⟨30, _⟩ => ⟨S12x2048, .f32⟩
  | .hbm, ⟨31, _⟩ => ⟨S12x2048, .f32⟩
  | .hbm, ⟨32, _⟩ => ⟨S12x614, .f32⟩
  | .hbm, ⟨33, _⟩ => ⟨S12x614, .i32⟩
  | .hbm, ⟨34, _⟩ => ⟨S_, .f32⟩
  | .hbm, ⟨35, _⟩ => ⟨S12x2048, .f32⟩
  | .hbm, ⟨36, _⟩ => ⟨S_, .f32⟩
  | .hbm, ⟨37, _⟩ => ⟨S12x2048, .f32⟩
  | .hbm, ⟨38, _⟩ => ⟨S12x2048, .f32⟩
  | .hbm, ⟨39, _⟩ => ⟨S12x614, .f32⟩
  | .hbm, ⟨40, _⟩ => ⟨S12x614, .i32⟩
  | .hbm, ⟨41, _⟩ => ⟨S12, .i32⟩
  | .hbm, ⟨42, _⟩ => ⟨S12x1, .i32⟩
  | .hbm, ⟨43, _⟩ => ⟨S_, .f32⟩
  | .hbm, ⟨44, _⟩ => ⟨S12x2048, .f32⟩
  | .hbm, ⟨45, _⟩ => ⟨S_, .i32⟩
  | .hbm, ⟨46, _⟩ => ⟨S12x1, .i32⟩
  | .hbm, ⟨47, _⟩ => ⟨S12x1, .i1⟩
  | .hbm, ⟨48, _⟩ => ⟨S_, .i32⟩
  | .hbm, ⟨49, _⟩ => ⟨S12x1, .i32⟩
  | .hbm, ⟨50, _⟩ => ⟨S12x1, .i32⟩
  | .hbm, ⟨51, _⟩ => ⟨S12x1, .i32⟩
  | .hbm, ⟨52, _⟩ => ⟨S_, .i32⟩
  | .hbm, ⟨53, _⟩ => ⟨S12x614, .i32⟩
  | .hbm, ⟨54, _⟩ => ⟨S12x614, .i1⟩
  | .hbm, ⟨55, _⟩ => ⟨S_, .i32⟩
  | .hbm, ⟨56, _⟩ => ⟨S12x614, .i32⟩
  | .hbm, ⟨57, _⟩ => ⟨S12x614, .i32⟩
  | .hbm, ⟨58, _⟩ => ⟨S12x614, .i32⟩
  | .hbm, ⟨59, _⟩ => ⟨S12x614, .i32⟩
  | .hbm, ⟨60, _⟩ => ⟨S12x614x1, .i32⟩
  | .hbm, ⟨61, _⟩ => ⟨S12x614x1, .i32⟩
  | .hbm, ⟨62, _⟩ => ⟨S12x614x2, .i32⟩
  | .hbm, ⟨63, _⟩ => ⟨S_, .f32⟩
  | .hbm, ⟨64, _⟩ => ⟨S12x614, .f32⟩
  | .hbm, ⟨65, _⟩ => ⟨S12x2048, .f32⟩
  | .hbm, ⟨66, _⟩ => ⟨S_, .f32⟩
  | .hbm, ⟨67, _⟩ => ⟨S12x2048, .f32⟩
  | .hbm, ⟨68, _⟩ => ⟨S_, .i32⟩
  | .hbm, ⟨69, _⟩ => ⟨S12x1, .i32⟩
  | .hbm, ⟨70, _⟩ => ⟨S12x1, .i1⟩
  | .hbm, ⟨71, _⟩ => ⟨S_, .i32⟩
  | .hbm, ⟨72, _⟩ => ⟨S12x1, .i32⟩
  | .hbm, ⟨73, _⟩ => ⟨S12x1, .i32⟩
  | .hbm, ⟨74, _⟩ => ⟨S12x1, .i32⟩
  | .hbm, ⟨75, _⟩ => ⟨S_, .i32⟩
  | .hbm, ⟨76, _⟩ => ⟨S12x614, .i32⟩
  | .hbm, ⟨77, _⟩ => ⟨S12x614, .i1⟩
  | .hbm, ⟨78, _⟩ => ⟨S_, .i32⟩
  | .hbm, ⟨79, _⟩ => ⟨S12x614, .i32⟩
  | .hbm, ⟨80, _⟩ => ⟨S12x614, .i32⟩
  | .hbm, ⟨81, _⟩ => ⟨S12x614, .i32⟩
  | .hbm, ⟨82, _⟩ => ⟨S12x614, .i32⟩
  | .hbm, ⟨83, _⟩ => ⟨S12x614x1, .i32⟩
  | .hbm, ⟨84, _⟩ => ⟨S12x614x1, .i32⟩
  | .hbm, ⟨85, _⟩ => ⟨S12x614x2, .i32⟩
  | .hbm, ⟨86, _⟩ => ⟨S_, .f32⟩
  | .hbm, ⟨87, _⟩ => ⟨S12x614, .f32⟩
  | .hbm, ⟨88, _⟩ => ⟨S12x2048, .f32⟩
  | .hbm, ⟨89, _⟩ => ⟨S12x2048x1, .f32⟩
  | .hbm, ⟨90, _⟩ => ⟨S12x1x2048, .f32⟩
  | .hbm, ⟨91, _⟩ => ⟨S12x2048x2048, .f32⟩
  | .hbm, ⟨92, _⟩ => ⟨S12x2048x2048, .f32⟩
  | .hbm, ⟨93, _⟩ => ⟨S12x2048x2048, .f32⟩
  | .hbm, ⟨94, _⟩ => ⟨S_, .f32⟩
  | .hbm, ⟨95, _⟩ => ⟨S12x2048x2048, .f32⟩
  | .hbm, ⟨96, _⟩ => ⟨S12x2048x2048, .i1⟩
  | .hbm, ⟨97, _⟩ => ⟨S_, .f32⟩
  | .hbm, ⟨98, _⟩ => ⟨S_, .f32⟩
  | .hbm, ⟨99, _⟩ => ⟨S12x2048x2048, .f32⟩
  | .hbm, ⟨100, _⟩ => ⟨S12x2048x2048, .f32⟩
  | .hbm, ⟨101, _⟩ => ⟨S12x2048x2048, .f32⟩
  | .hbm, ⟨102, _⟩ => ⟨S1x12x2048x2048, .f32⟩
  | .hbm, ⟨103, _⟩ => ⟨S_, .f32⟩
  | .hbm, ⟨104, _⟩ => ⟨S1x2048x2048, .f32⟩
  | .hbm, ⟨105, _⟩ => ⟨S_, .f32⟩
  | .hbm, ⟨106, _⟩ => ⟨S1x2048x2048, .f32⟩
  | .hbm, ⟨107, _⟩ => ⟨S1x2048x2048, .f32⟩
  | .hbm, ⟨108, _⟩ => ⟨S_, .f32⟩
  | .hbm, ⟨109, _⟩ => ⟨S1x2048, .f32⟩
  | .hbm, ⟨110, _⟩ => ⟨S_, .f32⟩
  | .hbm, ⟨111, _⟩ => ⟨S1x2048, .f32⟩
  | .hbm, ⟨112, _⟩ => ⟨S1x2048, .f32⟩
  | .hbm, ⟨113, _⟩ => ⟨S1x614, .f32⟩
  | .hbm, ⟨114, _⟩ => ⟨S1x614, .i32⟩
  | .hbm, ⟨115, _⟩ => ⟨S12x64x768, .f32⟩
  | .hbm, ⟨116, _⟩ => ⟨S12x64x768, .bf16⟩
  | .hbm, ⟨117, _⟩ => ⟨S12x2048x1, .f32⟩
  | .hbm, ⟨118, _⟩ => ⟨S12x1x2048, .f32⟩
  | .hbm, ⟨119, _⟩ => ⟨S1x768, .f32⟩
  | .hbm, ⟨120, _⟩ => ⟨S2048x768, .f32⟩
  | .hbm, ⟨121, _⟩ => ⟨S1x2048x768, .f32⟩
  | .hbm, ⟨122, _⟩ => ⟨S1x768x2048, .f32⟩
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x2048, .f32⟩
  | .local _ .vmem, ⟨5, _⟩ => ⟨S1x2048x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x1, .f32⟩
  | .local _ .vmem, ⟨13, _⟩ => ⟨S1x512x1, .f32⟩
  | .local _ .vmem, ⟨14, _⟩ => ⟨S1x1x2048, .f32⟩
  | .local _ .vmem, ⟨15, _⟩ => ⟨S1x1x2048, .f32⟩
  | .local _ .vmem, ⟨16, _⟩ => ⟨S1x512x64, .bf16⟩
  | .local _ .vmem, ⟨17, _⟩ => ⟨S1x512x64, .bf16⟩
  | .local _ .vmem, ⟨18, _⟩ => ⟨S1x64x768, .bf16⟩
  | .local _ .vmem, ⟨19, _⟩ => ⟨S1x64x768, .bf16⟩
  | .local _ .vmem, ⟨20, _⟩ => ⟨S1x768, .f32⟩
  | .local _ .vmem, ⟨21, _⟩ => ⟨S2048x768, .f32⟩
  | .local _ .vmem, ⟨22, _⟩ => ⟨S2048x64, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_values : Ref sig .tc := ⟨.hbm, 32, rfl⟩
abbrev main_indices : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_values_3 : Ref sig .tc := ⟨.hbm, 39, rfl⟩
abbrev main_indices_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_c_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_call0_v0 : Ref sig .tc := ⟨.hbm, 98, rfl⟩
abbrev main_call0_v1 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_cst_19 : Ref sig .tc := ⟨.hbm, 105, rfl⟩
abbrev main_v73 : Ref sig .tc := ⟨.hbm, 106, rfl⟩
abbrev main_v74 : Ref sig .tc := ⟨.hbm, 107, rfl⟩
abbrev main_cst_20 : Ref sig .tc := ⟨.hbm, 108, rfl⟩
abbrev main_v75 : Ref sig .tc := ⟨.hbm, 109, rfl⟩
abbrev main_cst_21 : Ref sig .tc := ⟨.hbm, 110, rfl⟩
abbrev main_v76 : Ref sig .tc := ⟨.hbm, 111, rfl⟩
abbrev main_v77 : Ref sig .tc := ⟨.hbm, 112, rfl⟩
abbrev main_values_22 : Ref sig .tc := ⟨.hbm, 113, rfl⟩
abbrev main_indices_23 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![12], ![false]⟩

@[reducible] def k0_t1_loop : Scf.Loop 32 :=
  let c1_i32 : BitVec 32 := 1#32
  let c255_i32 : BitVec 32 := 255#32
  let v16 : BitVec 32 := Scalar.addi c1_i32 c255_i32
  let c1_i32_10 : BitVec 32 := 1#32
  ⟨c1_i32, v16, c1_i32_10⟩
def k0_off1 (k0_t1 : Fin k0_t1_loop.trips) : Fin 3 → Nat :=
  let c0_15 : Index := 0#32
  let c8_i32 : BitVec 32 := 8#32
  let c1_i32 : BitVec 32 := 1#32
  let c1_i32_10 : BitVec 32 := 1#32
  let arg5 : BitVec 32 := Scf.iv c1_i32 c1_i32_10 k0_t1
  let v30 : BitVec 32 := Scalar.muli c8_i32 arg5
  let v31 : Index := Scalar.indexCast v30
  let c0_16 : Index := 0#32
  ![0, v31.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![12, 4], ![false, false]⟩

def k1_cond3 (i : grid1.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_19 : BitVec 32 := 0#32
  let v30 : BitVec 1 := Scalar.cmpi .ne v29 c0_i32_19
  v30

def k1_cond4 (i : grid1.Coords) : BitVec 1 :=
  let arg0 : BitVec 32 := BitVec.ofNat 32 (i 0).val
  let c0_i32_26 : BitVec 32 := 0#32
  let v36 : BitVec 1 := Scalar.cmpi .eq arg0 c0_i32_26
  let v37 : BitVec 32 := Scalar.extui v36
  let c0_i32_27 : BitVec 32 := 0#32
  let v38 : BitVec 1 := Scalar.cmpi .ne v37 c0_i32_27
  v38

def k1_cond5 (i : grid1.Coords) : BitVec 1 :=
  let arg0 : BitVec 32 := BitVec.ofNat 32 (i 0).val
  let c0_i32_28 : BitVec 32 := 0#32
  let v39 : BitVec 1 := Scalar.cmpi .ne arg0 c0_i32_28
  let v40 : BitVec 32 := Scalar.extui v39
  let c0_i32_29 : BitVec 32 := 0#32
  let v41 : BitVec 1 := Scalar.cmpi .ne v40 c0_i32_29
  v41

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2048x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]
-- ==== ReferenceIdeal.lean ====
abbrev S1x2048x768 : Shape := ⟨3, ![1, 2048, 768]⟩
abbrev S768x768 : Shape := ⟨2, ![768, 768]⟩
abbrev S768 : Shape := ⟨1, ![768]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S12x2048x2048 : Shape := ⟨3, ![12, 2048, 2048]⟩
abbrev S_ : Shape := ⟨0, ![]⟩
abbrev S12x2048 : Shape := ⟨2, ![12, 2048]⟩
abbrev S12x2048x1 : Shape := ⟨3, ![12, 2048, 1]⟩
abbrev S12x614 : Shape := ⟨2, ![12, 614]⟩
abbrev S12 : Shape := ⟨1, ![12]⟩
abbrev S12x1 : Shape := ⟨2, ![12, 1]⟩
abbrev S12x614x1 : Shape := ⟨3, ![12, 614, 1]⟩
abbrev S12x614x2 : Shape := ⟨3, ![12, 614, 2]⟩
abbrev S12x1x2048 : Shape := ⟨3, ![12, 1, 2048]⟩
abbrev S1x12x2048x2048 : Shape := ⟨4, ![1, 12, 2048, 2048]⟩
abbrev S1x2048x2048 : Shape := ⟨3, ![1, 2048, 2048]⟩
abbrev S1x2048 : Shape := ⟨2, ![1, 2048]⟩
abbrev S1x614 : Shape := ⟨2, ![1, 614]⟩
abbrev S1x1x768 : Shape := ⟨3, ![1, 1, 768]⟩
abbrev S1x768x2048 : Shape := ⟨3, ![1, 768, 2048]⟩

abbrev nBuf : Space → Nat
  | .hbm => 133
  | .vmem => 0
  | .smem => 0
  | _ => 0

abbrev hbmTy0_0 (i : Nat) : BufTy := match i % 128 with
  | 0 => ⟨S1x2048x768, .f32⟩
  | 1 => ⟨S768x768, .f32⟩
  | 2 => ⟨S768x768, .f32⟩
  | 3 => ⟨S768x768, .f32⟩
  | 4 => ⟨S768x768, .f32⟩
  | 5 => ⟨S768, .f32⟩
  | 6 => ⟨S1x2048x768, .f32⟩
  | 7 => ⟨S1x2048x768, .f32⟩
  | 8 => ⟨S1x2048x768, .f32⟩
  | 9 => ⟨S1x2048x12x64, .f32⟩
  | 10 => ⟨S1x12x2048x64, .f32⟩
  | 11 => ⟨S12x2048x64, .f32⟩
  | 12 => ⟨S1x2048x12x64, .f32⟩
  | 13 => ⟨S1x12x2048x64, .f32⟩
  | 14 => ⟨S12x2048x64, .f32⟩
  | 15 => ⟨S1x2048x12x64, .f32⟩
  | 16 => ⟨S1x12x2048x64, .f32⟩
  | 17 => ⟨S12x2048x64, .f32⟩
  | 18 => ⟨S12x2048x2048, .f32⟩
  | 19 => ⟨S_, .f32⟩
  | 20 => ⟨S12x2048x2048, .f32⟩
  | 21 => ⟨S12x2048x2048, .f32⟩
  | 22 => ⟨S_, .f32⟩
  | 23 => ⟨S12x2048, .f32⟩
  | 24 => ⟨S_, .f32⟩
  | 25 => ⟨S12x2048, .f32⟩
  | 26 => ⟨S12x2048, .f32⟩
  | 27 => ⟨S12x2048x1, .f32⟩
  | 28 => ⟨S12x2048x2048, .f32⟩
  | 29 => ⟨S12x2048x2048, .f32⟩
  | 30 => ⟨S12x2048x2048, .f32⟩
  | 31 => ⟨S_, .f32⟩
  | 32 => ⟨S12x2048, .f32⟩
  | 33 => ⟨S12x2048x1, .f32⟩
  | 34 => ⟨S12x2048x2048, .f32⟩
  | 35 => ⟨S12x2048x2048, .f32⟩
  | 36 => ⟨S_, .f32⟩
  | 37 => ⟨S12x2048, .f32⟩
  | 38 => ⟨S_, .f32⟩
  | 39 => ⟨S12x2048, .f32⟩
  | 40 => ⟨S12x2048, .f32⟩
  | 41 => ⟨S12x614, .f32⟩
  | 42 => ⟨S12x614, .i32⟩
  | 43 => ⟨S_, .f32⟩
  | 44 => ⟨S12x2048, .f32⟩
  | 45 => ⟨S_, .f32⟩
  | 46 => ⟨S12x2048, .f32⟩
  | 47 => ⟨S12x2048, .f32⟩
  | 48 => ⟨S12x614, .f32⟩
  | 49 => ⟨S12x614, .i32⟩
  | 50 => ⟨S12, .i32⟩
  | 51 => ⟨S12x1, .i32⟩
  | 52 => ⟨S_, .f32⟩
  | 53 => ⟨S12x2048, .f32⟩
  | 54 => ⟨S_, .i32⟩
  | 55 => ⟨S12x1, .i32⟩
  | 56 => ⟨S12x1, .i1⟩
  | 57 => ⟨S_, .i32⟩
  | 58 => ⟨S12x1, .i32⟩
  | 59 => ⟨S12x1, .i32⟩
  | 60 => ⟨S12x1, .i32⟩
  | 61 => ⟨S_, .i32⟩
  | 62 => ⟨S12x614, .i32⟩
  | 63 => ⟨S12x614, .i1⟩
  | 64 => ⟨S_, .i32⟩
  | 65 => ⟨S12x614, .i32⟩
  | 66 => ⟨S12x614, .i32⟩
  | 67 => ⟨S12x614, .i32⟩
  | 68 => ⟨S12x614, .i32⟩
  | 69 => ⟨S12x614x1, .i32⟩
  | 70 => ⟨S12x614x1, .i32⟩
  | 71 => ⟨S12x614x2, .i32⟩
  | 72 => ⟨S_, .f32⟩
  | 73 => ⟨S12x614, .f32⟩
  | 74 => ⟨S12x2048, .f32⟩
  | 75 => ⟨S_, .f32⟩
  | 76 => ⟨S12x2048, .f32⟩
  | 77 => ⟨S_, .i32⟩
  | 78 => ⟨S12x1, .i32⟩
  | 79 => ⟨S12x1, .i1⟩
  | 80 => ⟨S_, .i32⟩
  | 81 => ⟨S12x1, .i32⟩
  | 82 => ⟨S12x1, .i32⟩
  | 83 => ⟨S12x1, .i32⟩
  | 84 => ⟨S_, .i32⟩
  | 85 => ⟨S12x614, .i32⟩
  | 86 => ⟨S12x614, .i1⟩
  | 87 => ⟨S_, .i32⟩
  | 88 => ⟨S12x614, .i32⟩
  | 89 => ⟨S12x614, .i32⟩
  | 90 => ⟨S12x614, .i32⟩
  | 91 => ⟨S12x614, .i32⟩
  | 92 => ⟨S12x614x1, .i32⟩
  | 93 => ⟨S12x614x1, .i32⟩
  | 94 => ⟨S12x614x2, .i32⟩
  | 95 => ⟨S_, .f32⟩
  | 96 => ⟨S12x614, .f32⟩
  | 97 => ⟨S12x2048, .f32⟩
  | 98 => ⟨S12x1x2048, .f32⟩
  | 99 => ⟨S12x2048x1, .f32⟩
  | 100 => ⟨S12x2048x2048, .f32⟩
  | 101 => ⟨S12x2048x2048, .f32⟩
  | 102 => ⟨S12x2048x2048, .f32⟩
  | 103 => ⟨S_, .f32⟩
  | 104 => ⟨S12x2048x2048, .f32⟩
  | 105 => ⟨S12x2048x2048, .i1⟩
  | 106 => ⟨S_, .f32⟩
  | 107 => ⟨S_, .f32⟩
  | 108 => ⟨S12x2048x2048, .f32⟩
  | 109 => ⟨S12x2048x2048, .f32⟩
  | 110 => ⟨S12x2048x2048, .f32⟩
  | 111 => ⟨S1x12x2048x2048, .f32⟩
  | 112 => ⟨S_, .f32⟩
  | 113 => ⟨S1x2048x2048, .f32⟩
  | 114 => ⟨S_, .f32⟩
  | 115 => ⟨S1x2048x2048, .f32⟩
  | 116 => ⟨S1x2048x2048, .f32⟩
  | 117 => ⟨S_, .f32⟩
  | 118 => ⟨S1x2048, .f32⟩
  | 119 => ⟨S_, .f32⟩
  | 120 => ⟨S1x2048, .f32⟩
  | 121 => ⟨S1x2048, .f32⟩
  | 122 => ⟨S1x614, .f32⟩
  | 123 => ⟨S1x614, .i32⟩
  | 124 => ⟨S12x2048x64, .f32⟩
  | 125 => ⟨S1x12x2048x64, .f32⟩
  | 126 => ⟨S1x2048x12x64, .f32⟩
  | 127 => ⟨S1x2048x768, .f32⟩
  | _ => ⟨S1x2048x768, .f32⟩

abbrev hbmTy0_1 (i : Nat) : BufTy := match i % 128 with
  | 0 => ⟨S1x2048x768, .f32⟩
  | 1 => ⟨S1x1x768, .f32⟩
  | 2 => ⟨S1x2048x768, .f32⟩
  | 3 => ⟨S1x2048x768, .f32⟩
  | 4 => ⟨S1x768x2048, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_values : Ref sig .tc := ⟨.hbm, 41, rfl⟩
abbrev main_indices : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_values_7 : Ref sig .tc := ⟨.hbm, 48, rfl⟩
abbrev main_indices_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_c_15 : Ref sig .tc := ⟨.hbm, 77, rfl⟩
abbrev main_v52 : Ref sig .tc := ⟨.hbm, 78, rfl⟩
abbrev main_v53 : Ref sig .tc := ⟨.hbm, 79, rfl⟩
abbrev main_c_16 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_17 : Ref sig .tc := ⟨.hbm, 84, rfl⟩
abbrev main_v57 : Ref sig .tc := ⟨.hbm, 85, rfl⟩
abbrev main_v58 : Ref sig .tc := ⟨.hbm, 86, rfl⟩
abbrev main_c_18 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_19 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_20 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_call0_v0 : Ref sig .tc := ⟨.hbm, 107, rfl⟩
abbrev main_call0_v1 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_22 : Ref sig .tc := ⟨.hbm, 112, rfl⟩
abbrev main_v78 : Ref sig .tc := ⟨.hbm, 113, rfl⟩
abbrev main_cst_23 : Ref sig .tc := ⟨.hbm, 114, rfl⟩
abbrev main_v79 : Ref sig .tc := ⟨.hbm, 115, rfl⟩
abbrev main_v80 : Ref sig .tc := ⟨.hbm, 116, rfl⟩
abbrev main_cst_24 : Ref sig .tc := ⟨.hbm, 117, rfl⟩
abbrev main_v81 : Ref sig .tc := ⟨.hbm, 118, rfl⟩
abbrev main_cst_25 : Ref sig .tc := ⟨.hbm, 119, rfl⟩
abbrev main_v82 : Ref sig .tc := ⟨.hbm, 120, rfl⟩
abbrev main_v83 : Ref sig .tc := ⟨.hbm, 121, rfl⟩
abbrev main_values_26 : Ref sig .tc := ⟨.hbm, 122, rfl⟩
abbrev main_indices_27 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp

/-! The first kernel call, one grid point at a time: what its body leaves in its two output blocks, as a
    function of its two input blocks, and the pipeline's proof data built on that. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Eight consecutive rows of a block, starting at the row the loop's trip `k` reads. -/
def rows8 (e : Vec F S1x2048x2048 .f32) (k : Fin k0_t1_loop.trips) : Vec F S1x8x2048 .f32 :=
  View.ld e (Rect.unit (s := S1x2048x2048) (k0_off1 k) S1x8x2048.size (k0_off1_inb k))

/-- The running column sums before trip `k`: the first eight rows, and one further group of eight per trip. -/
def zrun (e : Vec F S1x2048x2048 .f32) (init : FVec F S8x2048 .f32) : ℕ → FVec F S8x2048 .f32
  | 0 => init
  | k + 1 => if h : k < k0_t1_loop.trips then k0_pay4 (zrun e init k) (rows8 e ⟨k, h⟩) else zrun e init k

/-- One trip adds its eight rows to the carried sums. -/
theorem tripR_eq (𝒱 : Variants) (c : Dev nD) (bd : Option 𝒱.V) (i : grid0.Coords) (arg1 : Memref sig .tc .vmem S1x2048x64 .bf16) (harg1 : arg1.IsWhole) (arg2 : Memref sig .tc .vmem S1x2048x64 .bf16) (harg2 : arg2.IsWhole) (arg3 : Memref sig .tc .vmem S1x2048x2048 .f32) (harg3 : arg3.IsWhole) (arg4 : Memref sig .tc .vmem S1x1x2048 .f32) (harg4 : arg4.IsWhole) (X : BufTy.Contents (Elt F) arg3.view.ty) (k : Fin k0_t1_loop.trips) (acc : FVec F S8x2048 .f32) :
    tripR_k0_t1 (F := F) 𝒱 c bd i arg1 harg1 arg2 harg2 arg3 harg3 arg4 harg4 X k acc
      = k0_pay4 acc (rows8 (arg3.view.read (Elt F) X) k) := by
  unfold tripR_k0_t1 trip_k0_t1
  rfl

/-- So the loop's state is the running sums. -/
theorem st_eq (𝒱 : Variants) (c : Dev nD) (bd : Option 𝒱.V) (i : grid0.Coords) (arg1 : Memref sig .tc .vmem S1x2048x64 .bf16) (harg1 : arg1.IsWhole) (arg2 : Memref sig .tc .vmem S1x2048x64 .bf16) (harg2 : arg2.IsWhole) (arg3 : Memref sig .tc .vmem S1x2048x2048 .f32) (harg3 : arg3.IsWhole) (arg4 : Memref sig .tc .vmem S1x1x2048 .f32) (harg4 : arg4.IsWhole) (X : BufTy.Contents (Elt F) arg3.view.ty) (init : FVec F S8x2048 .f32) (k : ℕ) :
    st_k0_t1 (F := F) 𝒱 c bd i arg1 harg1 arg2 harg2 arg3 harg3 arg4 harg4 X init k
      = zrun (arg3.view.read (Elt F) X) init k := by
  induction k with
  | zero => rfl
  | succ k ih =>
    rw [st_k0_t1.eq_2, ih, zrun.eq_2]; unfold st_k0_t1Step
    by_cases h : k < k0_t1_loop.trips
    · rw [dif_pos h, dif_pos h, tripR_eq]
    · rw [dif_neg h, dif_neg h]

/-- The numerators' block of one head. -/
def eBlk (x0 x1 : Vec F S1x2048x64 .bf16) : Vec F S1x2048x2048 .f32 := k0_pay2 x0 x1

/-- The column sums' block of one head. -/
def zBlk (x0 x1 : Vec F S1x2048x64 .bf16) : Vec F S1x1x2048 .f32 :=
  k0_pay5 (zrun (eBlk x0 x1) (k0_pay3 x0 x1) 255)

/-- The loop makes 255 trips. -/
theorem trips_eq : k0_t1_loop.trips = 255 := by decide +kernel

/-- The body at any memrefs: the two outputs end at `eBlk` and `zBlk` of the inputs. -/
theorem run0 (c : Dev nD) (i : grid0.Coords) (arg1 : Memref sig .tc .vmem S1x2048x64 .bf16) (harg1 : arg1.IsWhole) (arg2 : Memref sig .tc .vmem S1x2048x64 .bf16) (harg2 : arg2.IsWhole) (arg3 : Memref sig .tc .vmem S1x2048x2048 .f32) (harg3 : arg3.IsWhole) (arg4 : Memref sig .tc .vmem S1x1x2048 .f32) (harg4 : arg4.IsWhole)
    (x0 : Vec F S1x2048x64 .bf16) (x1 : Vec F S1x2048x64 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (eBlk x0 x1) ∗ owns (c : Thread nD τ) arg4 fullShare (zBlk x0 x1)) -∗ K ⟨⟩))
      ⊢ wp frame (wpE (defs₀ (F := F)) Variants.none c none) E (cc0__attnez_body i arg1 harg1 arg2 harg2 arg3 harg3 arg4 harg4) K := by
  simp only [cc0__attnez_body_eq_skeleton]; unfold cc0__attnez_body_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  have hz : (![0, 0, 0] : Fin 3 → Nat) = fun _ => 0 := by decide
  isplitl [H2]
  · iexists _; isplitr
    swap; · iexact H2
    ipureintro
    rw [View.read_writes_eq_canon _ _ _ (View.cover_of_tiledL _ S1x2048x2048.size (by sl_kernel_rfl))]
    sl_unfold_words
    rw [View.canon_unit_zero hz]
    simp only [View.readAt_eq_ld, harg1.read_unread, harg2.read_unread, View.ld_unit_zero (S := S1x2048x64) hz]
    rfl
  iexists _; isplitr
  swap; · iexact H3
  ipureintro
  rw [View.read_writes_eq_canon _ _ _ (View.cover_of_tiledL _ S1x1x2048.size (by sl_kernel_rfl)), View.canon_unit_zero hz, st_eq,
    View.read_writes_eq_canon _ _ _ (View.cover_of_tiledL _ S1x2048x2048.size (by sl_kernel_rfl)),
    show Scf.trips k0_t1_loop.lb k0_t1_loop.ub k0_t1_loop.st = 255 from trips_eq]
  sl_unfold_words
  rw [View.canon_unit_zero hz]
  simp only [View.readAt_eq_ld, harg1.read_unread, harg2.read_unread, View.ld_unit_zero (S := S1x2048x64) hz]
  rfl

/-! ## The pipeline's proof data -/

variable (V : Valuation τ sig (Elt F))

/-- Window `w`'s block at point `t`, read off its array as the call finds it. -/
def iblk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The first call's proof data: inputs stay at their blocks, outputs end at the blocks computed from them. -/
def dat0 (c : Dev nD) : Dat τ (Elt F) Unit ℕ (UR sig nD τ) ℕ cfg0 c where
  A w := V (Proc.devRef .tc (Pipeline.arrRef spec0 w))
  after w t := match w with
    | ⟨0, _⟩ => iblk0 V 0 t
    | ⟨1, _⟩ => iblk0 V 1 t
    | ⟨2, _⟩ => eBlk (iblk0 V 0 t) (iblk0 V 1 t)
    | ⟨3, _⟩ => zBlk (iblk0 V 0 t) (iblk0 V 1 t)
  Φ _ := Pipeline.scopedRest spec0 c
  q _ := fullShare
  owed _ := 0

/-- The proof data start from the arrays as found. -/
theorem A0_eq (c : Dev nD) (w : Fin cfg0.W) : (dat0 V c).A w = V (Proc.devRef .tc (Pipeline.arrRef spec0 w)) := by
  dsimp only [dat0]

/-- The key block is left as read; -/
theorem after0_0 (c : Dev nD) (t : Fin cfg0.N) : (dat0 V c).after 0 t = iblk0 V 0 t := by dsimp only [dat0]
/-- so is the query block; -/
theorem after0_1 (c : Dev nD) (t : Fin cfg0.N) : (dat0 V c).after 1 t = iblk0 V 1 t := by dsimp only [dat0]
/-- the first output block ends at the exponentials; -/
theorem after0_2 (c : Dev nD) (t : Fin cfg0.N) : (dat0 V c).after 2 t = eBlk (iblk0 V 0 t) (iblk0 V 1 t) := by dsimp only [dat0]
/-- the second at their column sums. -/
theorem after0_3 (c : Dev nD) (t : Fin cfg0.N) : (dat0 V c).after 3 t = zBlk (iblk0 V 0 t) (iblk0 V 1 t) := by dsimp only [dat0]

/-- The queries' and keys' staging buffers hold their blocks when the body starts. -/
theorem before0_0 (c : Dev nD) (t : Fin cfg0.N) (d) : (dat0 V c).before 0 t d = iblk0 V 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- The query staging buffer holds its block when the body starts. -/
theorem before0_1 (c : Dev nD) (t : Fin cfg0.N) (d) : (dat0 V c).before 1 t d = iblk0 V 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-- What the body is called with at a point, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point of the grid. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c (grid0.coords t) _ _ _ _ _ _ _ _ (iblk0 V 0 t) (iblk0 V 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The first call's row of the body table. -/
theorem row0 (t : Fin cfg0.N) :
    defs₀ (F := F) .tc cfg0.body (cfg0.bodyArgs t (cfg0.slots t)) = bodyAt0 t := by
  unfold defs₀; rw [Defs.onTc_tc]

/-- The first call's body obligation, at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

end Cert.KernelIdeal.Hand

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp

/-! The second kernel call, one grid point at a time: what its body leaves in the accumulator and in the output
    block, and the pipeline's proof data built on that. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after a grid point: started at a head's first block of keys, added to at the others. -/
def acc1 (i : grid1.Coords) (x0 : Vec F S1x512x2048 .f32) (x1 : Vec F S1x1x2048 .f32) (x2 : Vec F S1x512x1 .f32) (x3 : Vec F S1x1x2048 .f32) (x4 : Vec F S1x512x64 .bf16) (xs : Vec F S2048x64 .f32) : Vec F S2048x64 .f32 :=
  if (i 1).val = 0 then k1_pay2 x0 x1 x2 x3 x4 else k1_pay3 x0 x1 x2 x3 x4 xs

/-- The output block after a grid point: at a head's last block of keys the head's contribution, with the bias at the
    first head and added to what was there at the others; elsewhere untouched. -/
def out1 (i : grid1.Coords) (acc : Vec F S2048x64 .f32) (wo : Vec F S1x64x768 .bf16) (b : Vec F S1x768 .f32) (xo : Vec F S2048x768 .f32) : Vec F S2048x768 .f32 :=
  if (i 1).val = 3 then (if (i 0).val = 0 then k1_pay5 acc wo b else k1_pay6 acc wo xo) else xo

/-- The branch conditions on the grid's coordinates. -/
abbrev isFirst (i : grid1.Coords) : Prop := (Scalar.cmpi .ne (Scalar.extui (Scalar.cmpi .eq (BitVec.ofNat 32 (i 1).val) 0#32)) 0#32 : BitVec 1) = 1#1
/-- Not the first block of keys. -/
abbrev isLater (i : grid1.Coords) : Prop := (Scalar.cmpi .ne (Scalar.extui (Scalar.cmpi .ne (BitVec.ofNat 32 (i 1).val) 0#32)) 0#32 : BitVec 1) = 1#1

/-- The first condition says the key block is the first; -/
theorem isFirst_iff (i : grid1.Coords) : isFirst i ↔ (i 1).val = 0 :=
  (by decide +kernel : ∀ j : Fin 4, ((Scalar.cmpi .ne (Scalar.extui (Scalar.cmpi .eq (BitVec.ofNat 32 j.val) 0#32)) 0#32 : BitVec 1) = 1#1) ↔ j.val = 0) (i 1)
/-- the second that it is not; -/
theorem isLater_iff (i : grid1.Coords) : isLater i ↔ (i 1).val ≠ 0 :=
  (by decide +kernel : ∀ j : Fin 4, ((Scalar.cmpi .ne (Scalar.extui (Scalar.cmpi .ne (BitVec.ofNat 32 j.val) 0#32)) 0#32 : BitVec 1) = 1#1) ↔ j.val ≠ 0) (i 1)
/-- the third that it is the last; -/
theorem cond3_iff (i : grid1.Coords) : k1_cond3 i = 1#1 ↔ (i 1).val = 3 :=
  (by decide +kernel : ∀ j : Fin 4, ((Scalar.cmpi .ne (Scalar.extui (Scalar.cmpi .eq (BitVec.ofNat 32 j.val) 3#32)) 0#32 : BitVec 1) = 1#1) ↔ j.val = 3) (i 1)
/-- the fourth that the head is the first; -/
theorem cond4_iff (i : grid1.Coords) : k1_cond4 i = 1#1 ↔ (i 0).val = 0 :=
  (by decide +kernel : ∀ j : Fin 12, ((Scalar.cmpi .ne (Scalar.extui (Scalar.cmpi .eq (BitVec.ofNat 32 j.val) 0#32)) 0#32 : BitVec 1) = 1#1) ↔ j.val = 0) (i 0)
/-- the fifth that it is not. -/
theorem cond5_iff (i : grid1.Coords) : k1_cond5 i = 1#1 ↔ (i 0).val ≠ 0 :=
  (by decide +kernel : ∀ j : Fin 12, ((Scalar.cmpi .ne (Scalar.extui (Scalar.cmpi .ne (BitVec.ofNat 32 j.val) 0#32)) 0#32 : BitVec 1) = 1#1) ↔ j.val ≠ 0) (i 0)

set_option maxHeartbeats 1600000 in
/-- The body at any memrefs and any grid point: the inputs stay, the accumulator ends at `acc1`, the output at `out1`. -/
theorem run1 (c : Dev nD) (i : grid1.Coords) (arg2 : Memref sig .tc .vmem S1x512x2048 .f32) (harg2 : arg2.IsWhole) (arg3 : Memref sig .tc .vmem S1x1x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x512x64 .bf16) (harg6 : arg6.IsWhole) (arg7 : Memref sig .tc .vmem S1x64x768 .bf16) (harg7 : arg7.IsWhole) (arg8 : Memref sig .tc .vmem S1x768 .f32) (harg8 : arg8.IsWhole) (arg9 : Memref sig .tc .vmem S2048x768 .f32) (harg9 : arg9.IsWhole) (arg10 : Memref sig .tc .vmem S2048x64 .f32) (harg10 : arg10.IsWhole)
    (x0 : Vec F S1x512x2048 .f32) (x1 : Vec F S1x1x2048 .f32) (x2 : Vec F S1x512x1 .f32) (x3 : Vec F S1x1x2048 .f32) (x4 : Vec F S1x512x64 .bf16) (x5 : Vec F S1x64x768 .bf16) (x6 : Vec F S1x768 .f32) (xo : Vec F S2048x768 .f32) (xs : Vec F S2048x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1 i (acc1 i x0 x1 x2 x3 x4 xs) x5 x6 xo) ∗ owns (c : Thread nD τ) arg10 fullShare (acc1 i x0 x1 x2 x3 x4 xs)) -∗ K ⟨⟩))
      ⊢ wp frame (wpE (defs₀ (F := F)) Variants.none c none) E (cc1__apply_body i arg2 harg2 arg3 harg3 arg4 harg4 arg5 harg5 arg6 harg6 arg7 harg7 arg8 harg8 arg9 harg9 arg10 harg10) K := by
  have hz2 : (![0, 0] : Fin 2 → Nat) = fun _ => 0 := by decide
  have hz3 : (![0, 0, 0] : Fin 3 → Nat) = fun _ => 0 := by decide
  simp only [cc1__apply_body_eq_skeleton]; unfold cc1__apply_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
  by_cases h0 : (i 1).val = 0 <;> by_cases h3 : (i 1).val = 3 <;> by_cases hh : (i 0).val = 0
  all_goals first
    | (exfalso; omega)
    | skip
  all_goals
    first | have c1 := (isFirst_iff i).mpr h0 | have c1 := mt (isFirst_iff i).mp h0
    first | have c2 := (isLater_iff i).mpr h0 | have c2 := mt (isLater_iff i).mp (fun h => h h0)
    first | have c3 := (cond3_iff i).mpr h3 | have c3 := mt (cond3_iff i).mp h3
    first | have c4 := (cond4_iff i).mpr hh | have c4 := mt (cond4_iff i).mp hh
    first | have c5 := (cond5_iff i).mpr hh | have c5 := mt (cond5_iff i).mp (fun h => h hh)
    unfold acc1 out1
    simp only [h0, h3, hh, if_true, if_false]
    try simp only [show ¬((0 : ℕ) = 3) by decide, show ¬((3 : ℕ) = 0) by decide, if_false]
    sl_exec (disch := first | sl_exact c1 | sl_exact c2 | sl_exact c3 | sl_exact c4 | sl_exact c5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr
      swap; · iexact H7
      ipureintro
      first
        | rw [harg9.read_unread]
        | (rw [View.read_writes_eq_canon _ _ _ (View.cover_of_tiledL _ S2048x768.size (by sl_kernel_rfl))]
           (try sl_unfold_words)
           rw [View.canon_unit_zero hz2]
           simp only [View.readAt_eq_ld, View.readCov_unit_zero (S := S2048x64) _ hz2, harg2.read_unread, harg3.read_unread, harg4.read_unread, harg5.read_unread, harg6.read_unread, harg7.read_unread, harg8.read_unread, harg9.read_unread, harg10.read_unread,
             View.ld_unit_zero (S := S1x512x2048) hz3, View.ld_unit_zero (S := S1x1x2048) hz3, View.ld_unit_zero (S := S1x512x1) hz3, View.ld_unit_zero (S := S1x512x64) hz3, View.ld_unit_zero (S := S1x64x768) hz3,
             View.ld_unit_zero (S := S1x768) hz2, View.ld_unit_zero (S := S2048x768) hz2, View.ld_unit_zero (S := S2048x64) hz2])
    iexists _; isplitr
    swap; · iexact HS0
    ipureintro
    rw [View.read_writes_eq_canon _ _ _ (View.cover_of_tiledL _ S2048x64.size (by sl_kernel_rfl))]
    (try sl_unfold_words)
    rw [View.canon_unit_zero hz2]
    simp only [View.readAt_eq_ld, View.readCov_unit_zero (S := S2048x64) _ hz2, harg2.read_unread, harg3.read_unread, harg4.read_unread, harg5.read_unread, harg6.read_unread, harg7.read_unread, harg8.read_unread, harg9.read_unread, harg10.read_unread,
      View.ld_unit_zero (S := S1x512x2048) hz3, View.ld_unit_zero (S := S1x1x2048) hz3, View.ld_unit_zero (S := S1x512x1) hz3, View.ld_unit_zero (S := S1x512x64) hz3, View.ld_unit_zero (S := S1x64x768) hz3,
      View.ld_unit_zero (S := S1x768) hz2, View.ld_unit_zero (S := S2048x768) hz2, View.ld_unit_zero (S := S2048x64) hz2]

end Cert.KernelIdeal.Hand

end
-- ==== Proof.Region1Data.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region1
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp

/-! The second kernel call's pipeline: what its accumulator and its output hold after every grid point, and the body's
    obligation at every point. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F))

/-- Window `w`'s block at point `t`, read off its array as the call finds it. -/
def iblk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The accumulator after point `n`. -/
def scr : (n : ℕ) → n < cfg1.N → Vec F S2048x64 .f32
  | 0, h => k1_pay2 (iblk1 V 0 ⟨0, h⟩) (iblk1 V 1 ⟨0, h⟩) (iblk1 V 2 ⟨0, h⟩) (iblk1 V 3 ⟨0, h⟩) (iblk1 V 4 ⟨0, h⟩)
  | n + 1, h => acc1 (grid1.coords ⟨n + 1, h⟩) (iblk1 V 0 ⟨n + 1, h⟩) (iblk1 V 1 ⟨n + 1, h⟩) (iblk1 V 2 ⟨n + 1, h⟩) (iblk1 V 3 ⟨n + 1, h⟩) (iblk1 V 4 ⟨n + 1, h⟩)
      (scr n (Nat.lt_of_succ_lt h))

/-- The output block after point `n` (until the first head's last block of keys, a placeholder nothing reads). -/
def outv : (n : ℕ) → n < cfg1.N → Vec F S2048x768 .f32
  | 0, h => k1_pay5 (scr V 0 h) (iblk1 V 5 ⟨0, h⟩) (iblk1 V 6 ⟨0, h⟩)
  | n + 1, h => out1 (grid1.coords ⟨n + 1, h⟩) (scr V (n + 1) h) (iblk1 V 5 ⟨n + 1, h⟩) (iblk1 V 6 ⟨n + 1, h⟩) (outv n (Nat.lt_of_succ_lt h))

/-- A point's head. -/
theorem coord1_0 (t : Fin cfg1.N) : (grid1.coords t 0).val = t.val / 4 % 12 := Pipeline.Grid.coords_val t 0 (by decide) rfl
/-- A point's block of keys. -/
theorem coord1_1 (t : Fin cfg1.N) : (grid1.coords t 1).val = t.val % 4 :=
  (Pipeline.Grid.coords_val (S := 1) (B := 4) t 1 (by decide) rfl).trans (congrArg (· % 4) (Nat.div_one _))

/-- At a later point the accumulator is `acc1` of what the point before left; -/
theorem scr_pos (t : Fin cfg1.N) (hz : t.val ≠ 0) :
    scr V t.val t.isLt = acc1 (grid1.coords t) (iblk1 V 0 t) (iblk1 V 1 t) (iblk1 V 2 t) (iblk1 V 3 t) (iblk1 V 4 t)
      (scr V (t.val - 1) (Nat.lt_of_le_of_lt (Nat.sub_le _ _) t.isLt)) := by
  obtain ⟨n, h⟩ := t
  cases n with
  | zero => exact absurd rfl hz
  | succ n => rfl

/-- at the first it depends on nothing carried. -/
theorem scr_zero (t : Fin cfg1.N) (hz : t.val = 0) (xs : Vec F S2048x64 .f32) :
    scr V t.val t.isLt = acc1 (grid1.coords t) (iblk1 V 0 t) (iblk1 V 1 t) (iblk1 V 2 t) (iblk1 V 3 t) (iblk1 V 4 t) xs := by
  obtain ⟨n, h⟩ := t
  obtain rfl : n = 0 := hz
  unfold acc1; rw [if_pos (by rw [coord1_1]; rfl)]; rfl

/-- At a later point the output block is `out1` of what the point before left. -/
theorem outv_pos (t : Fin cfg1.N) (hz : t.val ≠ 0) :
    outv V t.val t.isLt = out1 (grid1.coords t) (scr V t.val t.isLt) (iblk1 V 5 t) (iblk1 V 6 t)
      (outv V (t.val - 1) (Nat.lt_of_le_of_lt (Nat.sub_le _ _) t.isLt)) := by
  obtain ⟨n, h⟩ := t
  cases n with
  | zero => exact absurd rfl hz
  | succ n => rfl

/-- The call's scratch, whole. -/
abbrev scM : Memref sig .tc .vmem S2048x64 .f32 := Memref.whole cc1_scratch0

/-- The other call's staging buffers, at anything: they ride along. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The invariant before point `n`: the scratch holds what the point before left (anything before the first). -/
def Phi1 (c : Dev nD) (n : ℕ) : sProp 𝕄 :=
  iprop(∃ xs : Vec F S2048x64 .f32, ⌜∀ (hn : n - 1 < cfg1.N), n ≠ 0 → xs = scr V (n - 1) hn⌝ ∗ owns (c : Thread nD τ) scM fullShare xs ∗ rest1 c)

/-- The second call's proof data. -/
def dat1 (c : Dev nD) : Dat τ (Elt F) Unit ℕ (UR sig nD τ) ℕ cfg1 c where
  A w := V (Proc.devRef .tc (Pipeline.arrRef spec1 w))
  after w t := match w with
    | ⟨0, _⟩ => iblk1 V 0 t
    | ⟨1, _⟩ => iblk1 V 1 t
    | ⟨2, _⟩ => iblk1 V 2 t
    | ⟨3, _⟩ => iblk1 V 3 t
    | ⟨4, _⟩ => iblk1 V 4 t
    | ⟨5, _⟩ => iblk1 V 5 t
    | ⟨6, _⟩ => iblk1 V 6 t
    | ⟨7, _⟩ => outv V t.val t.isLt
  Φ t := Phi1 V c t.val
  q _ := fullShare
  owed _ := 0

/-- The proof data start from the arrays as found. -/
theorem A1_eq (c : Dev nD) (w : Fin cfg1.W) : (dat1 V c).A w = V (Proc.devRef .tc (Pipeline.arrRef spec1 w)) := by
  dsimp only [dat1]

/-- Input block 0 is left as read. -/
theorem after1_0 (c : Dev nD) (t : Fin cfg1.N) : (dat1 V c).after 0 t = iblk1 V 0 t := by dsimp only [dat1]
/-- Input block 1 is left as read. -/
theorem after1_1 (c : Dev nD) (t : Fin cfg1.N) : (dat1 V c).after 1 t = iblk1 V 1 t := by dsimp only [dat1]
/-- Input block 2 is left as read. -/
theorem after1_2 (c : Dev nD) (t : Fin cfg1.N) : (dat1 V c).after 2 t = iblk1 V 2 t := by dsimp only [dat1]
/-- Input block 3 is left as read. -/
theorem after1_3 (c : Dev nD) (t : Fin cfg1.N) : (dat1 V c).after 3 t = iblk1 V 3 t := by dsimp only [dat1]
/-- Input block 4 is left as read. -/
theorem after1_4 (c : Dev nD) (t : Fin cfg1.N) : (dat1 V c).after 4 t = iblk1 V 4 t := by dsimp only [dat1]
/-- Input block 5 is left as read. -/
theorem after1_5 (c : Dev nD) (t : Fin cfg1.N) : (dat1 V c).after 5 t = iblk1 V 5 t := by dsimp only [dat1]
/-- Input block 6 is left as read. -/
theorem after1_6 (c : Dev nD) (t : Fin cfg1.N) : (dat1 V c).after 6 t = iblk1 V 6 t := by dsimp only [dat1]
/-- The output block ends at `outv`. -/
theorem after1_7 (c : Dev nD) (t : Fin cfg1.N) : (dat1 V c).after 7 t = outv V t.val t.isLt := by dsimp only [dat1]

/-- The inputs' staging buffers hold their blocks when the body starts. -/
theorem before1_0 (c : Dev nD) (t : Fin cfg1.N) (d) : (dat1 V c).before 0 t d = iblk1 V 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- Input 1's staging buffer holds its block when the body starts. -/
theorem before1_1 (c : Dev nD) (t : Fin cfg1.N) (d) : (dat1 V c).before 1 t d = iblk1 V 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
/-- Input 2's staging buffer holds its block when the body starts. -/
theorem before1_2 (c : Dev nD) (t : Fin cfg1.N) (d) : (dat1 V c).before 2 t d = iblk1 V 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
/-- Input 3's staging buffer holds its block when the body starts. -/
theorem before1_3 (c : Dev nD) (t : Fin cfg1.N) (d) : (dat1 V c).before 3 t d = iblk1 V 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
/-- Input 4's staging buffer holds its block when the body starts. -/
theorem before1_4 (c : Dev nD) (t : Fin cfg1.N) (d) : (dat1 V c).before 4 t d = iblk1 V 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
/-- Input 5's staging buffer holds its block when the body starts. -/
theorem before1_5 (c : Dev nD) (t : Fin cfg1.N) (d) : (dat1 V c).before 5 t d = iblk1 V 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
/-- Input 6's staging buffer holds its block when the body starts. -/
theorem before1_6 (c : Dev nD) (t : Fin cfg1.N) (d) : (dat1 V c).before 6 t d = iblk1 V 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)

/-- The output is idle exactly off the last block of keys, and not written back there; -/
theorem idle1_7 : ∀ t : Fin cfg1.N, t.val % 4 ≠ 3 → cfg1.idle 7 (grid1.coords t) = true := by decide +kernel
/-- The output window is live at a head's last block of keys; -/
theorem live1_7 : ∀ t : Fin cfg1.N, t.val % 4 = 3 → cfg1.idle 7 (grid1.coords t) = false := by decide +kernel
/-- it is not written back at any other point. -/
theorem noFlush1_7 : ∀ t : Fin cfg1.N, t.val % 4 ≠ 3 → (cfg1.win 7).flush t = false := by decide +kernel

/-- its staging buffer holds nothing stored before the fourth point, and something at every later one. -/
def freshTab1_7 (n : ℕ) : Bool := decide (n < 4) || decide (n = 48)
/-- How the freshness of the output block changes at each point. -/
theorem freshTab1_7_step : ∀ t : Fin cfg1.N,
    freshTab1_7 (t.val + 1) = ((cfg1.win 7).flush t || (cfg1.idle 7 (cfg1.grid.coords t) && freshTab1_7 t.val)) := by decide +kernel
/-- From the second head on the output block is not fresh. -/
theorem fresh1_7 (t : Fin cfg1.N) (h : 4 ≤ t.val) : cfg1.fresh 7 t.val = false := by
  rw [Pipeline.Cfg.fresh_tab cfg1 7 freshTab1_7 rfl freshTab1_7_step t.val (Nat.le_of_lt t.isLt)]
  have hN : t.val < 48 := lt_of_lt_of_eq t.isLt N_1
  unfold freshTab1_7; simp; omega

/-- Through an idle point the output's contents are carried. -/
theorem carry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t hz hi _
  by_cases h3 : t.val % 4 = 3
  · rw [live1_7 t h3] at hi; exact absurd hi Bool.false_ne_true
  rw [after1_7, after1_7, outv_pos V t hz]
  unfold out1; rw [if_neg (by rw [coord1_1]; exact h3)]

/-- At a later head's last block of keys the body finds what the point before left. -/
theorem before1_7 (c : Dev nD) (t : Fin cfg1.N) (h : 4 ≤ t.val) (d) :
    (dat1 V c).before 7 t d = outv V (t.val - 1) (Nat.lt_of_le_of_lt (Nat.sub_le _ _) t.isLt) := by
  rw [Dat.before_out_traj _ 7 rfl (fun _ _ => rfl) (carry1_7 V c) t.val t rfl d, if_neg (by rw [fresh1_7 t h]; exact Bool.false_ne_true), after1_7]

/-- At a head's last block of keys the body's output is the stated one. -/
theorem out1_before (c : Dev nD) (t : Fin cfg1.N) (h3 : t.val % 4 = 3) (d) :
    out1 (grid1.coords t) (scr V t.val t.isLt) (iblk1 V 5 t) (iblk1 V 6 t) ((dat1 V c).before 7 t d) = outv V t.val t.isLt := by
  rw [outv_pos V t (by omega)]
  by_cases h4 : 4 ≤ t.val
  · rw [before1_7 V c t h4]
  · have e0 : (grid1.coords t 0).val = 0 := by rw [coord1_0]; omega
    have e1 : (grid1.coords t 1).val = 3 := by rw [coord1_1]; exact h3
    unfold out1; simp only [e0, e1, if_true]

/-- What the body is called with at a point, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input's staging buffer is left at its block. -/
theorem leaves1_in (c : Dev nD) (w : Fin cfg1.W) (t : Fin cfg1.N) (h : cfg1.idle w (cfg1.grid.coords t) = false) (X)
    (ha : (dat1 V c).after w t = X) :
    (dat1 V c).leavesExact w t = owns (c : Thread nD τ) ((cfg1.win w).stage (cfg1.slots t w)) fullShare X := by
  subst ha; unfold Dat.leavesExact; rw [h]

/-- The invariant hands the body the scratch, and takes it back one point on. -/
theorem Phi1_next (c : Dev nD) (t : Fin cfg1.N) (xs : Vec F S2048x64 .f32) (h : ∀ (hn : t.val - 1 < cfg1.N), t.val ≠ 0 → xs = scr V (t.val - 1) hn) :
    acc1 (grid1.coords t) (iblk1 V 0 t) (iblk1 V 1 t) (iblk1 V 2 t) (iblk1 V 3 t) (iblk1 V 4 t) xs = scr V t.val t.isLt := by
  by_cases hz : t.val = 0
  · exact (scr_zero V t hz xs).symm
  · rw [scr_pos V t hz, h (Nat.lt_of_le_of_lt (Nat.sub_le _ _) t.isLt) hz]

/-- The body at any point of the grid. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6,
    leaves1_in V c 0 t rfl _ (after1_0 V c t), leaves1_in V c 1 t rfl _ (after1_1 V c t), leaves1_in V c 2 t rfl _ (after1_2 V c t), leaves1_in V c 3 t rfl _ (after1_3 V c t), leaves1_in V c 4 t rfl _ (after1_4 V c t), leaves1_in V c 5 t rfl _ (after1_5 V c t), leaves1_in V c 6 t rfl _ (after1_6 V c t)]
  rw [show (dat1 V c).owesAt () t.succ = (dat1 V c).owesAt () t.castSucc from rfl,
    show (dat1 V c).Φ t.castSucc = Phi1 V c t.val from rfl, show (dat1 V c).Φ t.succ = Phi1 V c (t.val + 1) from rfl]
  unfold Phi1
  iintro ⟨⟨%xs, %hxs, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1 c (grid1.coords t) _ _ _ _ _ _ _ _ _ _ _ _ _ _ _ _ _ _ (iblk1 V 0 t) (iblk1 V 1 t) (iblk1 V 2 t) (iblk1 V 3 t) (iblk1 V 4 t) (iblk1 V 5 t) (iblk1 V 6 t) ((dat1 V c).before 7 t d7) xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  rw [Phi1_next V c t xs hxs]
  iintro ⟨H0, H1, H2, H3, H4, H5, H6, H7, HS⟩
  isplitl [HS Hr]
  · iexists (scr V t.val t.isLt); isplitr
    · ipureintro; intro _ _; rfl
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h3 : t.val % 4 = 3
  · rw [leaves1_in V c 7 t (live1_7 t h3) _ (after1_7 V c t), out1_before V c t h3]
    iexact H7
  · rw [Dat.leavesExact_idle (dat1 V c) 7 t (idle1_7 t h3) (noFlush1_7 t h3)]
    unfold out1; rw [if_neg (by rw [coord1_1]; exact h3)]
    iexists _; iexact H7

/-- The second call's row of the body table. -/
theorem row1 (t : Fin cfg1.N) :
    defs₀ (F := F) .tc cfg1.body (cfg1.bodyArgs t (cfg1.slots t)) = bodyAt1 t := by
  unfold defs₀; rw [Defs.onTc_tc]

/-- The second call's body obligation, at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- The call is entered with its scratch at anything, -/
theorem Phi1_in (c : Dev nD) : Pipeline.scopedRest spec1 c ⊢ (dat1 V c).Φ 0 := by
  rw [show (dat1 V c).Φ 0 = Phi1 V c 0 from rfl, scopedRest1_eq]
  unfold Phi1 rest1
  iintro ⟨H0, H1, H2, H3, H4, H5, H6, H7, ⟨%f, HS⟩⟩
  iexists f
  isplitr; · ipureintro; exact fun _ h => absurd rfl h
  isplitl [HS]; · rw [owns_whole]; iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- and left so. -/
theorem Phi1_out (c : Dev nD) : (dat1 V c).Φ (Fin.last cfg1.N) ⊢ Pipeline.scopedRest spec1 c := by
  rw [show (dat1 V c).Φ (Fin.last cfg1.N) = Phi1 V c (Fin.last cfg1.N).val from rfl, scopedRest1_eq]
  unfold Phi1 rest1
  simp only [owns_whole]
  iintro ⟨%xs, -, HS, H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists xs
  iexact HS

end Cert.KernelIdeal.Hand

end
-- ==== Proof.WholeRun.lean ====
module

public import proofs.«01_k».proof.Proof.Gen.KernelIdeal.Regions
public import proofs.«01_k».proof.Proof.Region0
public import proofs.«01_k».proof.Proof.Region1Data
public import Idealize.ShloMosaic.Lib.Pipeline.RegionArraysS

/-! The whole kernel's run: the two calls' records, and the launch. Every run ends, with every argument unchanged, every
    counter at zero, and the two results at the contents the last host stretch leaves. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first call leaves in its two output arrays. -/
def outs0 : Outs (F := F) := fun _ r c =>
  Pipeline.afterRegion (dat0 (V1 m c) c) (V1 m c) (Proc.devRef .tc r)

/-- What each call leaves in its output arrays. -/
def outs : Outs (F := F) := fun J r c =>
  if J = 6 then Pipeline.afterRegion (dat1 (V5 m (outs0 m) c) c) (V5 m (outs0 m) c) (Proc.devRef .tc r) else outs0 m J r c

/-- The second call is entered with contents that do not depend on its own outputs. -/
theorem V5_outs (c : Dev nD) : V5 m (outs m) c = V5 m (outs0 m) c := rfl

/-- The arrays after the first call, as the contents the next stretch is entered with. -/
theorem after0_eq (c : Dev nD) : Pipeline.afterRegion (dat0 (V1 m c) c) (V1 m c) = V2 m (outs m) c := by
  funext b
  by_cases h1 : b = Proc.devRef .tc main_v15_1
  · subst h1; exact (Function.update_self (f := Function.update (V1 m c) main_v15_0 (outs m 2 main_v15_0 c)) _ _).symm
  by_cases h0 : b = Proc.devRef .tc main_v15_0
  · subst h0
    exact ((Function.update_of_ne h1 _ _).trans (Function.update_self (f := V1 m c) _ _)).symm
  show _ = Function.update (Function.update (V1 m c) (Proc.devRef .tc main_v15_0) (outs m 2 main_v15_0 c)) (Proc.devRef .tc main_v15_1) (outs m 2 main_v15_1 c) b
  rw [Function.update_of_ne h1, Function.update_of_ne h0]
  by_cases hw : ∃ w, b = Proc.devRef .tc (Pipeline.arrRef spec0 w)
  · obtain ⟨w, rfl⟩ := hw
    refine Pipeline.afterRegion_keeps _ _ launch0.win.arr_inj (fun w => A0_eq _ c w) _ fun w' e => ?_
    have hw' : w' = w := launch0.win.arr_inj e
    subst hw'
    match w', h0, h1 with
    | 0, _, _ => rfl
    | 1, _, _ => rfl
    | 2, h0, _ => exact absurd rfl h0
    | 3, _, h1 => exact absurd rfl h1
  · exact dif_neg hw

/-- The arrays after the second call, as the contents the last stretch is entered with. -/
theorem after1_eq (c : Dev nD) : Pipeline.afterRegion (dat1 (V5 m (outs m) c) c) (V5 m (outs m) c) = V6 m (outs m) c := by
  funext b
  by_cases h1 : b = Proc.devRef .tc main_v83
  · subst h1; exact (Function.update_self (f := V5 m (outs m) c) _ _).symm
  show _ = Function.update (V5 m (outs m) c) (Proc.devRef .tc main_v83) (outs m 6 main_v83 c) b
  rw [Function.update_of_ne h1]
  by_cases hw : ∃ w, b = Proc.devRef .tc (Pipeline.arrRef spec1 w)
  · obtain ⟨w, rfl⟩ := hw
    refine Pipeline.afterRegion_keeps _ _ launch1.win.arr_inj (fun w => A1_eq _ c w) _ fun w' e => ?_
    have hw' : w' = w := launch1.win.arr_inj e
    subst hw'
    match w', h1 with
    | 0, _ => rfl
    | 1, _ => rfl
    | 2, _ => rfl
    | 3, _ => rfl
    | 4, _ => rfl
    | 5, _ => rfl
    | 6, _ => rfl
    | 7, h1 => exact absurd rfl h1
  · exact dif_neg hw

/-- Every cell of a TensorCore thread may be named. -/
def Lx : GSem nD τ sig → Finset Unit := fun g => if g.1.2 = .tc then {()} else ∅
/-- One level for every cell. -/
def lvx : GSem nD τ sig → Unit → ℕ := fun _ _ => 0

/-- Every cell sits at the one level. -/
theorem cut (p : Fin 2) : Pipeline.LevelCut (pcfgs (F := F)) adm () Lx lvx p (fun _ => 0) (fun _ => 0) where
  hι _ _ _ := by simp [Lx]
  hιb _ _ _ := le_refl _
  hD _ _ _ h := absurd h (by simp)

/-- An empty conjunct may be dropped; -/
theorem emp_off (P : sProp 𝕄) : iprop(P ∗ emp) ⊢ P := by iintro ⟨H, -⟩; iexact H
/-- or added; -/
theorem emp_on (P : sProp 𝕄) : P ⊢ iprop(P ∗ emp) := by
  iintro H
  isplitl [H]
  · iexact H
  iempintro

/-- two may be added; -/
theorem mid_in (P Q : sProp 𝕄) : iprop(P ∗ Q) ⊢ iprop(P ∗ Q ∗ emp ∗ emp) := by
  iintro ⟨HP, HQ⟩
  isplitl [HP]; · iexact HP
  isplitl [HQ]; · iexact HQ
  isplitr
  · iempintro
  iempintro
/-- or dropped. -/
theorem mid_out (P Q : sProp 𝕄) : iprop(P ∗ Q ∗ emp ∗ emp) ⊢ iprop(P ∗ Q) := by
  iintro ⟨HP, HQ, -, -⟩
  isplitl [HP]; · iexact HP
  iexact HQ

/-- The first call's invariant is the scoped buffers its windows do not stage, before its first point -/
theorem in0 (V : Valuation τ sig (Elt F)) (c : Dev nD) : iprop(Pipeline.scopedRest spec0 c ∗ emp) ⊢ (dat0 V c).Φ 0 := by
  rw [show (dat0 V c).Φ 0 = Pipeline.scopedRest spec0 c by dsimp only [dat0]]
  exact emp_off _

/-- and after its last. -/
theorem out0 (V : Valuation τ sig (Elt F)) (c : Dev nD) : (dat0 V c).Φ (Fin.last cfg0.N) ⊢ iprop(Pipeline.scopedRest spec0 c ∗ emp) := by
  rw [show (dat0 V c).Φ (Fin.last cfg0.N) = Pipeline.scopedRest spec0 c by dsimp only [dat0]]
  exact emp_on _

/-- The second call's invariant starts from the scoped buffers its windows do not stage -/
theorem in1 (V : Valuation τ sig (Elt F)) (c : Dev nD) : iprop(Pipeline.scopedRest spec1 c ∗ emp) ⊢ (dat1 V c).Φ 0 :=
  (emp_off _).trans (Phi1_in V c)

/-- and gives them back. -/
theorem out1_end (V : Valuation τ sig (Elt F)) (c : Dev nD) : (dat1 V c).Φ (Fin.last cfg1.N) ⊢ iprop(Pipeline.scopedRest spec1 c ∗ emp) :=
  (Phi1_out V c).trans (emp_on _)

/-- What rides beside the buffers between two items: the core owes nothing. -/
def Ex (_ : Fin 3) (c : Dev nD) : sProp 𝕄 := iprop(∃ W, owes (c : Thread nD τ) (0 : CellTallies nD τ sig Unit) W)

/-- The first call's arrays are unscoped; -/
theorem arrUnscoped0 : ∀ w : Fin cfg0.W, ¬ (Proc.devRef (τ := τ) .tc (Pipeline.arrRef spec0 w)).isScoped = true := by decide

/-- they are among the unscoped buffers. -/
theorem arrs0_sub : Pipeline.arrRefs (τ := τ) spec0 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, arrUnscoped0 w⟩

/-- The second call's arrays are unscoped; -/
theorem arrUnscoped1 : ∀ w : Fin cfg1.W, ¬ (Proc.devRef (τ := τ) .tc (Pipeline.arrRef spec1 w)).isScoped = true := by decide

/-- they are among the unscoped buffers. -/
theorem arrs1_sub : Pipeline.arrRefs (τ := τ) spec1 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, arrUnscoped1 w⟩

section Records

variable (Wa Wb : Dev nD → Valuation τ sig (Elt F))

/-- The two calls' proof data, each entered at the contents the program reaches it with. -/
def pdats : (p : Fin 2) → (c : Dev nD) → Dat τ (Elt F) Unit ℕ (UR sig nD τ) ℕ (cfgs p) c
  | 0, c => dat0 (Wa c) c
  | 1, c => dat1 (Wb c) c

set_option backward.isDefEq.respectTransparency.types false in
/-- The first call's record. -/
def R0 : RegionSeg (pcfgs (F := F)) adm (pdats Wa Wb) () (defs₀ (F := F)) Variants.none Lx lvx 0 :=
  RegionSeg.ofHeldIn (pcfgs (F := F)) adm (pdats Wa Wb) () defs₀ Variants.none Lx lvx 0 (fun _ => 0) (Pipeline.ucRefs τ sig)
    (fun _ => iprop(emp)) (fun _ => iprop(emp)) launch0.toP rfl (fun c => (obligation0 (Wa c) c).loose) (fun _ _ => rfl) (fun _ => rfl)
    (fun c => (dat0 (Wa c) c).share_full fun _ => rfl)
    (fun c => in0 (Wa c) c) (fun c => out0 (Wa c) c)
    (fun _ => 0) (cut 0) (fun _ => iprop(emp)) Wa (fun c w => A0_eq (Wa c) c w)

set_option backward.isDefEq.respectTransparency.types false in
/-- The first call is entered with every buffer at its contents and nothing owed, -/
theorem pre0_of (c : Dev nD) : iprop(StableHlo.held (c : Thread nD τ) (Pipeline.ucRefs τ sig) (Wa c) ∗ Ex 0 c) ⊢ (R0 (F := F) Wa Wb).pre c := by
  unfold R0
  refine BI.Entails.trans ?_ (RegionSeg.ofHeldIn_pre ?_ c)
  · exact mid_in _ _
  · exact arrs0_sub

set_option backward.isDefEq.respectTransparency.types false in
/-- and left with its arrays at what its pipeline writes. -/
theorem post0_of (c : Dev nD) : (R0 (F := F) Wa Wb).post c ⊢ iprop(StableHlo.held (c : Thread nD τ) (Pipeline.ucRefs τ sig) (Pipeline.afterRegion (dat0 (Wa c) c) (Wa c)) ∗ Ex 1 c) := by
  refine .trans ?_ (mid_out _ _)
  unfold R0
  refine RegionSeg.ofHeldIn_post ?_ c
  exact arrs0_sub

set_option backward.isDefEq.respectTransparency.types false in
/-- The second call's record. -/
def R1 : RegionSeg (pcfgs (F := F)) adm (pdats Wa Wb) () (defs₀ (F := F)) Variants.none Lx lvx 1 :=
  RegionSeg.ofHeldIn (pcfgs (F := F)) adm (pdats Wa Wb) () defs₀ Variants.none Lx lvx 1 (fun _ => 0) (Pipeline.ucRefs τ sig)
    (fun _ => iprop(emp)) (fun _ => iprop(emp)) launch1.toP rfl (fun c => (obligation1 (Wb c) c).loose) (fun _ _ => rfl) (fun _ => rfl)
    (fun c => (dat1 (Wb c) c).share_full fun _ => rfl)
    (fun c => in1 (Wb c) c) (fun c => out1_end (Wb c) c)
    (fun _ => 0) (cut 1) (fun _ => iprop(emp)) Wb (fun c w => A1_eq (Wb c) c w)

set_option backward.isDefEq.respectTransparency.types false in
/-- The second call is entered with every buffer at its contents and nothing owed, -/
theorem pre1_of (c : Dev nD) : iprop(StableHlo.held (c : Thread nD τ) (Pipeline.ucRefs τ sig) (Wb c) ∗ Ex 1 c) ⊢ (R1 (F := F) Wa Wb).pre c := by
  unfold R1
  refine BI.Entails.trans ?_ (RegionSeg.ofHeldIn_pre ?_ c)
  · exact mid_in _ _
  · exact arrs1_sub

set_option backward.isDefEq.respectTransparency.types false in
/-- and left with its arrays at what its pipeline writes. -/
theorem post1_of (c : Dev nD) : (R1 (F := F) Wa Wb).post c ⊢ iprop(StableHlo.held (c : Thread nD τ) (Pipeline.ucRefs τ sig) (Pipeline.afterRegion (dat1 (Wb c) c) (Wb c)) ∗ Ex 2 c) := by
  refine .trans ?_ (mid_out _ _)
  unfold R1
  refine RegionSeg.ofHeldIn_post ?_ c
  exact arrs1_sub

end Records

/-- What a run of the program ends with, on core `c`: the arguments as launched, the two results at the last contents. -/
def Ends (c : Dev nD) (s : MemSt nD τ sig (Elt F)) : Prop :=
  ((s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5))
  ∧ s.mem ((c.tc : Thread nD τ).loc main_v85) = V7 m (outs m) c (Proc.devRef .tc main_v85)
  ∧ s.mem ((c.tc : Thread nD τ).loc main_indices_23) = V7 m (outs m) c (Proc.devRef .tc main_indices_23))

-- plain definitions in a metavariable's type
set_option backward.isDefEq.respectTransparency.types false in
/-- Every run from memory `m` ends, as `Ends` says, with every counter at zero. -/
theorem run_whole : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (V1 m) (V5 m (outs m))) () cellOf_inj (emb₁ (sig := sig) (nD := nD) (τ := τ)) defs₀ Variants.none Lx lvx m ρ main
    (segs m (outs m) Variants.none Lx lvx Ex () (pdats (V1 m) (V5 m (outs m))) (R0 (V1 m) (V5 m (outs m))) (R1 (V1 m) (V5 m (outs m))))
    (fun c Q => by
      rewrite [main_chain c, Pipeline.Seg.run_eq_chain,
        show (segs m (outs m) Variants.none Lx lvx Ex () (pdats (V1 m) (V5 m (outs m))) (R0 (V1 m) (V5 m (outs m))) (R1 (V1 m) (V5 m (outs m))) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun g h => if_neg h) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ex 0 c))
    (Tₙ := fun c => StableHlo.held (c : Thread nD τ) (Pipeline.ucRefs τ sig) (V7 m (outs m) c))
    (hch := fun c => ⟨.rfl, pre0_of (V1 m) (V5 m (outs m)) c, (post0_of (V1 m) (V5 m (outs m)) c).trans (by rw [after0_eq m c]; exact .rfl), .rfl, .rfl, pre1_of (V1 m) (V5 m (outs m)) c, (post1_of (V1 m) (V5 m (outs m)) c).trans (by rw [after1_eq m c]; exact .rfl), sep_mono .rfl .rfl⟩)
    (hinit := by
      refine Pipeline.initEach Lx lvx fun c => ?_
      rw [show unscopedBufs c (fun b => m ((c.tc : Thread nD τ).loc b)) = StableHlo.held (c : Thread nD τ) (Pipeline.ucRefs τ sig) (V0 m c) from Pipeline.unscopedBufs_held c (V0 m c)]
      unfold Ex
      iintro ⟨⟨Hh, -, HO, -, -, -⟩, -⟩
      imodintro
      isplitl [Hh]; · iexact Hh
      iexists ∅; iexact HO)
    (QY := fun c s => Ends m c s)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V7 m (outs m) c) s') $$ [Hh HSI]
  · isplitl [Hh] <;> iassumption
  icases Hr with ⟨%h, HSI⟩
  imodintro
  isplitr
  · ipureintro
    have g : ∀ r : Ref sig .tc, ¬ (Proc.devRef (τ := τ) .tc r).isScoped = true → s'.mem.mem ((c.tc : Thread nD τ).loc r) = V7 m (outs m) c (Proc.devRef .tc r) :=
      fun r hr => h (Proc.devRef .tc r) (Finset.mem_filter.mpr ⟨StableHlo.devRef_mem_tcRefs r, hr⟩)
    exact ⟨⟨(g main_arg0 (by decide)).trans (V7_main_arg0 m (outs m) c), (g main_arg1 (by decide)).trans (V7_main_arg1 m (outs m) c),
      (g main_arg2 (by decide)).trans (V7_main_arg2 m (outs m) c), (g main_arg3 (by decide)).trans (V7_main_arg3 m (outs m) c),
      (g main_arg4 (by decide)).trans (V7_main_arg4 m (outs m) c), (g main_arg5 (by decide)).trans (V7_main_arg5 m (outs m) c)⟩,
      g main_v85 (by decide), g main_indices_23 (by decide)⟩
  · iexact HSI

end Cert.KernelIdeal.Hand

end
-- ==== Proof.KernelFrame.lean ====
module

public import proofs.«01_k».proof.Kernel
public import proofs.«01_k».proof.Proof.Gen.Kernel
public import proofs.«01_k».proof.Proof.WholeRun

/-! The program as printed and the program its ideal reading is printed as are the same text: each definition of one is, by unfolding,
    the other's. So what `run_whole` shows of the second, at every choice of float values, it shows of the first. -/

@[expose] public section

set_option maxRecDepth 16384
set_option maxHeartbeats 1000000

noncomputable section

namespace Cert.Proof

open Idealize.ShloMosaic Idealize.ShloMosaic.TcCoe Idealize.SL.Sem

variable {F : FTy → Type} [FloatOps F]

/-- The two kernels' bodies are the same programs. -/
theorem bodies_eq : @Cert.Kernel.defs₀ F _ _ = @Cert.KernelIdeal.defs₀ F _ _ := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l x
  match l, x with
  | 0, (t, s) => rfl
  | 1, (t, s) => rfl

/-- The pipelines around them are the same. -/
theorem pipelines_eq : @Cert.Kernel.pcfgs F _ = @Cert.KernelIdeal.pcfgs F _ := by exact rfl

/-- The called programs, pipelines and bodies, are the same. -/
theorem defs_eq : @Cert.Kernel.defs F _ _ = @Cert.KernelIdeal.defs F _ _ := by
  unfold Cert.Kernel.defs Cert.KernelIdeal.defs
  exact congrArg (Pipeline.defs (nD := Cert.Kernel.nD) (τ := Cert.Kernel.τ) (@Cert.Kernel.pcfgs F _)) bodies_eq

/-- @main's first half is the same; -/
theorem part0_eq : @Cert.Kernel.main_part0 F _ _ = @Cert.KernelIdeal.main_part0 F _ _ := by exact rfl
/-- so is its second. -/
theorem part1_eq : @Cert.Kernel.main_part1 F _ _ = @Cert.KernelIdeal.main_part1 F _ _ := by exact rfl
/-- So @main is the same. -/
theorem main_eq : @Cert.Kernel.main F _ _ = @Cert.KernelIdeal.main F _ _ := by
  funext d
  unfold Cert.Kernel.main Cert.KernelIdeal.main
  rw [part0_eq, part1_eq]
  rfl

/-- Every run of the printed program ends, with its arguments unchanged and every counter at zero. -/
theorem kernel_frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact (θ_run _ _ _).mono (fun _ h => ⟨fun c => (h.1 c).1, h.2⟩) (Cert.KernelIdeal.Hand.run_whole (F := F) m g)

end Cert.Proof

end
-- ==== Proof.Frames.lean ====
module

public import proofs.«01_k».proof.Defs
public import proofs.«01_k».proof.Proof.KernelFrame
public import proofs.«01_k».proof.Proof.Gen.ReferenceIdeal.Run

/-! The three frame claims: each program ends, its arguments unchanged and every counter at zero. -/

@[expose] public section

set_option maxRecDepth 16384

noncomputable section

namespace Cert.Proof

open Idealize.ShloMosaic Idealize.SL.Sem

/-- The printed kernel's frame. -/
theorem frame_kernel : Cert.quiescent_Kernel (hKernel := Cert.Kernel.Gen.facts) :=
  fun m g _ => kernel_frame (F := Bits) m g

/-- The ideal kernel's frame. -/
theorem frame_ideal : Cert.quiescent_KernelIdeal (hKernelIdeal := Cert.KernelIdeal.Gen.facts) :=
  fun m g _ => (θ_run _ _ _).mono (fun _ h => ⟨fun c => (h.1 c).1, h.2⟩) (Cert.KernelIdeal.Hand.run_whole (F := Ideal) m g)

/-- The reference's frame: it has no counter at all. -/
theorem frame_reference : Cert.quiescent_ReferenceIdeal (hReferenceIdeal := Cert.ReferenceIdeal.Gen.facts) :=
  fun m g _ => (θ_run _ _ _).mono (fun r h => ⟨fun c => (h c).2.2, sem_eq_zero_of_no_sems (by decide) r.2⟩) (Cert.ReferenceIdeal.Value.run (F := Ideal) m g)

end Cert.Proof

end
-- ==== Proof.Value1.lean ====
module

public import proofs.«01_k».proof.Proof.Region1Data
public import Idealize.ShloMosaic.Lib.Pointwise
public import Idealize.ShloMosaic.Lib.Pipeline.ValueKit

/-! What the second call leaves over the extended reals: every head's weighted values through the output weights, plus the bias. -/

@[expose] public section

set_option maxRecDepth 16384

noncomputable section

namespace Cert.KernelIdeal.Hand

open Cert.KernelIdeal Cert.KernelIdeal.Gen
open Idealize.ShloMosaic Idealize.ShloMosaic.TcCoe Idealize.SL.Sem

/-- A key block's contribution to a head's weighted values. -/
theorem k1_pay1_apply (x0 : FVec Ideal S1x512x2048 .f32) (x1 : FVec Ideal S1x1x2048 .f32) (x2 : FVec Ideal S1x512x1 .f32) (x3 : FVec Ideal S1x1x2048 .f32) (x4 : FVec Ideal S1x512x64 .bf16) (n : Fin 2048) (d : Fin 64) :
   k1_pay1 (F := Ideal) x0 x1 x2 x3 x4 (ix2 n d : S2048x64.Idx)
    = ∑ r : Fin 512, (Ideal.div (x0 (ix3 0 r n)) (x1 (ix3 0 0 n))
        * (if (x2 (ix3 0 r 0) + x3 (ix3 0 0 n) : EReal) = Ideal.ofBits .f32 0x40000000#32 then (1 : EReal) else x2 (ix3 0 r 0) + x3 (ix3 0 0 n))) * x4 (ix3 0 r d) := by
  pointwise [k1_pay1]
/-- The first block of keys stores its contribution; -/
theorem k1_pay2_apply (x0 : FVec Ideal S1x512x2048 .f32) (x1 : FVec Ideal S1x1x2048 .f32) (x2 : FVec Ideal S1x512x1 .f32) (x3 : FVec Ideal S1x1x2048 .f32) (x4 : FVec Ideal S1x512x64 .bf16) (n : Fin 2048) (d : Fin 64) :
   k1_pay2 (F := Ideal) x0 x1 x2 x3 x4 (ix2 n d : S2048x64.Idx) = k1_pay1 (F := Ideal) x0 x1 x2 x3 x4 (ix2 n d : S2048x64.Idx) := by
  pointwise [k1_pay2]
/-- a later one adds it. -/
theorem k1_pay3_apply (x0 : FVec Ideal S1x512x2048 .f32) (x1 : FVec Ideal S1x1x2048 .f32) (x2 : FVec Ideal S1x512x1 .f32) (x3 : FVec Ideal S1x1x2048 .f32) (x4 : FVec Ideal S1x512x64 .bf16) (s : FVec Ideal S2048x64 .f32) (n : Fin 2048) (d : Fin 64) :
   k1_pay3 (F := Ideal) x0 x1 x2 x3 x4 s (ix2 n d : S2048x64.Idx) = (s (ix2 n d) + k1_pay1 (F := Ideal) x0 x1 x2 x3 x4 (ix2 n d : S2048x64.Idx) : EReal) := by
  pointwise [k1_pay3]
/-- A head's part of the output. -/
theorem k1_pay4_apply (a : FVec Ideal S2048x64 .f32) (w : FVec Ideal S1x64x768 .bf16) (n : Fin 2048) (c : Fin 768) :
   k1_pay4 (F := Ideal) a w (ix2 n c : S2048x768.Idx) = ∑ d : Fin 64, a (ix2 n d) * w (ix3 0 d c) := by
  pointwise [k1_pay4]
/-- The first head stores its part plus the bias; -/
theorem k1_pay5_apply (a : FVec Ideal S2048x64 .f32) (w : FVec Ideal S1x64x768 .bf16) (b : FVec Ideal S1x768 .f32) (n : Fin 2048) (c : Fin 768) :
   k1_pay5 (F := Ideal) a w b (ix2 n c : S2048x768.Idx) = (k1_pay4 (F := Ideal) a w (ix2 n c) + b (ix2 0 c) : EReal) := by
  pointwise [k1_pay5]
/-- a later one adds its part. -/
theorem k1_pay6_apply (a : FVec Ideal S2048x64 .f32) (w : FVec Ideal S1x64x768 .bf16) (o : FVec Ideal S2048x768 .f32) (n : Fin 2048) (c : Fin 768) :
   k1_pay6 (F := Ideal) a w o (ix2 n c : S2048x768.Idx) = (o (ix2 n c) + k1_pay4 (F := Ideal) a w (ix2 n c) : EReal) := by
  pointwise [k1_pay6]
/-- The point of head `h` and key block `b`. -/
def pt (h : Fin 12) (b : Fin 4) : Fin cfg1.N := ⟨4 * h.val + b.val, by show _ < 48; omega⟩

/-- Which blocks that point's windows hold. -/
theorem idx1 : ∀ h : Fin 12, ∀ b : Fin 4, win1_0.index (pt h b) = ![h.val, b.val, 0] ∧ win1_1.index (pt h b) = ![h.val, 0, 0] ∧ win1_2.index (pt h b) = ![h.val, b.val, 0]
    ∧ win1_3.index (pt h b) = ![h.val, 0, 0] ∧ win1_4.index (pt h b) = ![h.val, b.val, 0] ∧ win1_5.index (pt h b) = ![h.val, 0, 0] ∧ win1_6.index (pt h b) = ![0, 0] := by
  decide +kernel

variable (V : Valuation τ sig (Elt Ideal))

/-- Row `r` of key block `b`. -/
abbrev row (b : Fin 4) (r : Fin 512) : Fin 2048 := ⟨b.val * 512 + r.val, by omega⟩

/-- The exponentials read at a point; -/
theorem iblk1_0 (h : Fin 12) (b : Fin 4) (r : Fin 512) (n : Fin 2048) : iblk1 V 0 (pt h b) (ix3 0 r n : S1x512x2048.Idx) = V (Proc.devRef .tc main_v15_0) (ix3 h (row b r) n : S12x2048x2048.Idx) := by
  blk_simp [iblk1]
  blk_ext [idx1 h b]
/-- the column sums; -/
theorem iblk1_1 (h : Fin 12) (b : Fin 4) (n : Fin 2048) : iblk1 V 1 (pt h b) (ix3 0 0 n : S1x1x2048.Idx) = V (Proc.devRef .tc main_v15_1) (ix3 h 0 n : S12x1x2048.Idx) := by
  blk_simp [iblk1]
  blk_ext [idx1 h b]
/-- the column mask; -/
theorem iblk1_2 (h : Fin 12) (b : Fin 4) (r : Fin 512) : iblk1 V 2 (pt h b) (ix3 0 r 0 : S1x512x1.Idx) = V (Proc.devRef .tc main_v80) (ix3 h (row b r) 0 : S12x2048x1.Idx) := by
  blk_simp [iblk1]
  blk_ext [idx1 h b]
/-- the row mask; -/
theorem iblk1_3 (h : Fin 12) (b : Fin 4) (n : Fin 2048) : iblk1 V 3 (pt h b) (ix3 0 0 n : S1x1x2048.Idx) = V (Proc.devRef .tc main_v81) (ix3 h 0 n : S12x1x2048.Idx) := by
  blk_simp [iblk1]
  blk_ext [idx1 h b]
/-- the values; -/
theorem iblk1_4 (h : Fin 12) (b : Fin 4) (r : Fin 512) (d : Fin 64) : iblk1 V 4 (pt h b) (ix3 0 r d : S1x512x64.Idx) = V (Proc.devRef .tc main_v14) (ix3 h (row b r) d : S12x2048x64.Idx) := by
  blk_simp [iblk1]
  blk_ext [idx1 h b]
/-- the output weights; -/
theorem iblk1_5 (h : Fin 12) (b : Fin 4) (d : Fin 64) (c : Fin 768) : iblk1 V 5 (pt h b) (ix3 0 d c : S1x64x768.Idx) = V (Proc.devRef .tc main_v79) (ix3 h d c : S12x64x768.Idx) := by
  blk_simp [iblk1]
  blk_ext [idx1 h b]
/-- the bias. -/
theorem iblk1_6 (h : Fin 12) (b : Fin 4) (c : Fin 768) : iblk1 V 6 (pt h b) (ix2 0 c : S1x768.Idx) = V (Proc.devRef .tc main_v82) (ix2 0 c : S1x768.Idx) := by
  blk_simp [iblk1]
  blk_ext [idx1 h b]

/-- A head's weight of key `j` at query `n`, masked. -/
def wgt (h : Fin 12) (j n : Fin 2048) : EReal :=
  let e : FVec Ideal S12x2048x2048 .f32 := V (Proc.devRef .tc main_v15_0)
  let z : FVec Ideal S12x1x2048 .f32 := V (Proc.devRef .tc main_v15_1)
  let cm : FVec Ideal S12x2048x1 .f32 := V (Proc.devRef .tc main_v80)
  let rm : FVec Ideal S12x1x2048 .f32 := V (Proc.devRef .tc main_v81)
  Ideal.div (e (ix3 h j n)) (z (ix3 h 0 n))
    * (if (cm (ix3 h j 0) + rm (ix3 h 0 n) : EReal) = Ideal.ofBits .f32 0x40000000#32 then (1 : EReal) else cm (ix3 h j 0) + rm (ix3 h 0 n))

/-- The values, head by head. -/
def vals (h : Fin 12) (j : Fin 2048) (d : Fin 64) : EReal := (V (Proc.devRef .tc main_v14) : FVec Ideal S12x2048x64 .bf16) (ix3 h j d)
/-- The output weights, head by head. -/
def wout (h : Fin 12) (d : Fin 64) (c : Fin 768) : EReal := (V (Proc.devRef .tc main_v79) : FVec Ideal S12x64x768 .bf16) (ix3 h d c)
/-- The bias. -/
def bias (c : Fin 768) : EReal := (V (Proc.devRef .tc main_v82) : FVec Ideal S1x768 .f32) (ix2 0 c)

/-- Point `t`'s contribution to its head's weighted values. -/
abbrev part (t : Fin cfg1.N) : FVec Ideal S2048x64 .f32 := k1_pay1 (F := Ideal) (iblk1 V 0 t) (iblk1 V 1 t) (iblk1 V 2 t) (iblk1 V 3 t) (iblk1 V 4 t)

/-- A point's contribution, in the arrays' terms. -/
theorem part_apply (h : Fin 12) (b : Fin 4) (n : Fin 2048) (d : Fin 64) :
    part V (pt h b) (ix2 n d : S2048x64.Idx) = ∑ r : Fin 512, wgt V h (row b r) n * vals V h (row b r) d := by
  refine (k1_pay1_apply _ _ _ _ _ n d).trans (Finset.sum_congr rfl fun r _ => ?_)
  rw [iblk1_0, iblk1_1, iblk1_2, iblk1_3, iblk1_4]
  rfl

/-- A head's first key block starts the accumulator; -/
theorem scr_base (t : Fin cfg1.N) (ht : t.val % 4 = 0) (n : Fin 2048) (d : Fin 64) :
    scr V t.val t.isLt (ix2 n d : S2048x64.Idx) = part V t (ix2 n d : S2048x64.Idx) := by
  have e : ∀ xs, acc1 (grid1.coords t) (iblk1 V 0 t) (iblk1 V 1 t) (iblk1 V 2 t) (iblk1 V 3 t) (iblk1 V 4 t) xs = k1_pay2 (iblk1 V 0 t) (iblk1 V 1 t) (iblk1 V 2 t) (iblk1 V 3 t) (iblk1 V 4 t) :=
    fun xs => if_pos (by rw [coord1_1]; exact ht)
  by_cases hz : t.val = 0
  · rw [scr_zero V t hz (part V t), e]; exact k1_pay2_apply _ _ _ _ _ n d
  · rw [scr_pos V t hz, e]; exact k1_pay2_apply _ _ _ _ _ n d

/-- each later one adds to it. -/
theorem scr_step (k : ℕ) (hk : k + 1 < cfg1.N) (ht : (k + 1) % 4 ≠ 0) (n : Fin 2048) (d : Fin 64) :
    scr V (k + 1) hk (ix2 n d : S2048x64.Idx) = (scr V k (Nat.lt_of_succ_lt hk) (ix2 n d : S2048x64.Idx) + part V ⟨k + 1, hk⟩ (ix2 n d : S2048x64.Idx) : EReal) := by
  rw [scr_pos V ⟨k + 1, hk⟩ (Nat.succ_ne_zero k)]
  unfold acc1
  rw [if_neg (by rw [coord1_1]; exact ht)]
  exact k1_pay3_apply _ _ _ _ _ _ n d

/-- After a head's last key block the accumulator holds its weighted values. -/
theorem scr_head (h : Fin 12) (n : Fin 2048) (d : Fin 64) :
    scr V (pt h 3).val (pt h 3).isLt (ix2 n d : S2048x64.Idx) = ∑ j : Fin 2048, wgt V h j n * vals V h j d := by
  have hb (b : Fin 4) := (pt h b).isLt
  have s3 := scr_step V (4 * h.val + 2) (hb 3) (by omega) n d
  have s2 := scr_step V (4 * h.val + 1) (hb 2) (by omega) n d
  have s1 := scr_step V (4 * h.val) (hb 1) (by omega) n d
  have s0 := scr_base V (pt h 0) (by show (4 * h.val + 0) % 4 = 0; omega) n d
  refine s3.trans ?_
  rw [s2, s1]
  refine Eq.trans ?_ (Fin.sum_univ_tiles 4 512 rfl fun j : Fin 2048 => wgt V h j n * vals V h j d).symm
  rw [Fin.sum_univ_four]
  have p (b : Fin 4) := part_apply V h b n d
  refine congrArg₂ (fun a b : EReal => a + b) (congrArg₂ (fun a b : EReal => a + b) (congrArg₂ (fun a b : EReal => a + b) (s0.trans (p 0)) (p 1)) (p 2)) (p 3)

/-- Head `h`'s part of the output. -/
def headOut (h : Fin 12) (n : Fin 2048) (c : Fin 768) : EReal := ∑ d : Fin 64, (∑ j : Fin 2048, wgt V h j n * vals V h j d) * wout V h d c

/-- At a head's last block of keys the body computes the head's part of the output. -/
theorem pay4_head (h : Fin 12) (n : Fin 2048) (c : Fin 768) :
    k1_pay4 (F := Ideal) (scr V (pt h 3).val (pt h 3).isLt) (iblk1 V 5 (pt h 3)) (ix2 n c : S2048x768.Idx) = headOut V h n c := by
  refine (k1_pay4_apply _ _ n c).trans (Finset.sum_congr rfl fun d _ => ?_)
  rw [scr_head, iblk1_5]
  rfl

/-- Between heads' ends the output block is left alone. -/
theorem outv_skip (k : ℕ) (hk : k + 1 < cfg1.N) (ht : (k + 1) % 4 ≠ 3) : outv V (k + 1) hk = outv V k (Nat.lt_of_succ_lt hk) := by
  rw [outv_pos V ⟨k + 1, hk⟩ (Nat.succ_ne_zero k)]
  exact if_neg (by rw [coord1_1]; exact ht)

/-- The first head's end writes its part and the bias; -/
theorem outv_first (n : Fin 2048) (c : Fin 768) :
    outv V (pt 0 3).val (pt 0 3).isLt (ix2 n c : S2048x768.Idx) = (headOut V 0 n c + bias V c : EReal) := by
  rw [outv_pos V (pt 0 3) (by decide)]
  unfold out1
  rw [if_pos (by rw [coord1_1]; rfl), if_pos (by rw [coord1_0]; rfl)]
  refine (k1_pay5_apply _ _ _ n c).trans ?_
  rw [pay4_head, iblk1_6]
  rfl

/-- each later one adds its part. -/
theorem outv_next (h : Fin 12) (h' : Fin 12) (hh : h'.val = h.val + 1) (n : Fin 2048) (c : Fin 768) :
    outv V (pt h' 3).val (pt h' 3).isLt (ix2 n c : S2048x768.Idx) = (outv V (pt h 3).val (pt h 3).isLt (ix2 n c : S2048x768.Idx) + headOut V h' n c : EReal) := by
  have hv : (pt h' 3).val = 4 * h.val + 3 + 4 := by show 4 * h'.val + 3 = _; omega
  have hl : 4 * h.val + 3 + 4 < cfg1.N := hv ▸ (pt h' 3).isLt
  rw [outv_pos V (pt h' 3) (by rw [hv]; omega)]
  unfold out1
  rw [if_pos (by rw [coord1_1, hv]; omega), if_neg (by rw [coord1_0, hv]; have := h'.isLt; omega)]
  refine (k1_pay6_apply _ _ _ n c).trans ?_
  rw [pay4_head]
  have e : outv V ((pt h' 3).val - 1) (Nat.lt_of_le_of_lt (Nat.sub_le _ _) (pt h' 3).isLt) = outv V (pt h 3).val (pt h 3).isLt := by
    have g : ∀ k (hk : k < cfg1.N), k = 4 * h.val + 3 + 3 → outv V k hk = outv V (pt h 3).val (pt h 3).isLt := by
      rintro k hk rfl
      exact (outv_skip V (4 * h.val + 3 + 2) hk (by omega)).trans ((outv_skip V (4 * h.val + 3 + 1) _ (by omega)).trans (outv_skip V (4 * h.val + 3) _ (by omega)))
    exact g _ _ (by rw [hv]; rfl)
  rw [e]

/-- After head `k` the output block holds the first heads' parts and the bias. -/
theorem outv_head (n : Fin 2048) (c : Fin 768) (k : ℕ) (hk : k < 12) :
    outv V (pt ⟨k, hk⟩ 3).val (pt ⟨k, hk⟩ 3).isLt (ix2 n c : S2048x768.Idx)
      = ((∑ h ∈ Finset.range (k + 1), if hh : h < 12 then headOut V ⟨h, hh⟩ n c else 0) + bias V c : EReal) := by
  induction k with
  | zero => rw [Finset.sum_range_one, dif_pos hk]; exact outv_first V n c
  | succ k ih =>
    rw [outv_next V ⟨k, Nat.lt_of_succ_lt hk⟩ ⟨k + 1, hk⟩ rfl, ih, Finset.sum_range_succ _ (k + 1), dif_pos hk]
    exact add_right_comm _ _ _

/-- At the end it holds every head's part and the bias. -/
theorem outv_end (n : Fin 2048) (c : Fin 768) :
    outv V (pt 11 3).val (pt 11 3).isLt (ix2 n c : S2048x768.Idx) = ((∑ h : Fin 12, headOut V h n c) + bias V c : EReal) := by
  refine (outv_head V n c 11 (by decide)).trans (congrArg (fun z : EReal => z + bias V c) ?_)
  rw [Finset.sum_range]
  exact Finset.sum_congr rfl fun h _ => dif_pos h.isLt

end Cert.KernelIdeal.Hand

end
-- ==== Proof.Value0.lean ====
module

public import proofs.«01_k».proof.Proof.Region0
public import Idealize.ShloMosaic.Lib.Pointwise
public import Idealize.ShloMosaic.Lib.Pipeline.ValueKit

/-! What the first call leaves over the extended reals: the exponentials of each head and their column sums. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- One entry of a head's exponentials. -/
theorem eBlk_apply (x0 x1 : FVec Ideal S1x2048x64 .bf16) (j i : Fin 2048) :
    eBlk (F := Ideal) x0 x1 (ix3 0 j i : S1x2048x2048.Idx)
      = Ideal.exp ((∑ k : Fin 64, x0 (ix3 0 j k) * x1 (ix3 0 i k)) * Ideal.ofBits .f32 0x3E000000#32
        - Finset.fold max (Ideal.ofBits .f32 0xFF800000#32) (fun j' : Fin 2048 => (∑ k : Fin 64, x0 (ix3 0 j' k) * x1 (ix3 0 i k)) * Ideal.ofBits .f32 0x3E000000#32) Finset.univ) := by
  pointwise [eBlk, k0_pay2, k0_pay1]

/-- Where trip `k`'s rows start. -/
theorem off1_val : ∀ k : Fin k0_t1_loop.trips, k0_off1 k 0 = 0 ∧ k0_off1 k 1 = 8 * (k.val + 1) ∧ k0_off1 k 2 = 0 := by decide +kernel

/-- The group of eight rows read at trip `k`. -/
theorem rows8_apply (e : FVec Ideal S1x2048x2048 .f32) (k : Fin k0_t1_loop.trips) (r : Fin 8) (i : Fin 2048) (h : 8 * (k.val + 1) + r.val < 2048) :
    rows8 (F := Ideal) e k (ix3 0 r i : S1x8x2048.Idx) = e (ix3 0 ⟨8 * (k.val + 1) + r.val, h⟩ i) := by
  pointwise [rows8]
  obtain ⟨h0, h1, h2⟩ := off1_val k
  exact congrArg e ((ix3_inj ..).2 ⟨Fin.ext h0, Fin.ext (by show k0_off1 k 1 + r.val = _; rw [h1]), Fin.ext (by show k0_off1 k 2 + i.val = _; rw [h2, Nat.zero_add])⟩)

/-- The sums start at the block's first eight rows. -/
theorem pay3_apply (x0 x1 : FVec Ideal S1x2048x64 .bf16) (r : Fin 8) (i : Fin 2048) (h : r.val < 2048) :
    k0_pay3 (F := Ideal) x0 x1 (ix2 r i : S8x2048.Idx) = eBlk (F := Ideal) x0 x1 (ix3 0 ⟨r.val, h⟩ i : S1x2048x2048.Idx) := by
  pointwise [k0_pay3, eBlk, k0_pay2]

/-- A trip adds its rows. -/
theorem pay4_apply (a : FVec Ideal S8x2048 .f32) (v : FVec Ideal S1x8x2048 .f32) (r : Fin 8) (i : Fin 2048) :
    k0_pay4 (F := Ideal) a v (ix2 r i : S8x2048.Idx) = a (ix2 r i) + v (ix3 0 r i) := by
  pointwise [k0_pay4]

/-- The last tree adds the eight partial sums. -/
theorem pay5_apply (a : FVec Ideal S8x2048 .f32) (i : Fin 2048) :
    k0_pay5 (F := Ideal) a (ix3 0 0 i : S1x1x2048.Idx) = ∑ r : Fin 8, a (ix2 r i) := by
  pointwise [k0_pay5]
  rw [Fin.sum_univ_eight]
  show (_ : EReal) = _
  generalize a (ix2 0 i) = a0
  generalize a (ix2 1 i) = a1
  generalize a (ix2 2 i) = a2
  generalize a (ix2 3 i) = a3
  generalize a (ix2 4 i) = a4
  generalize a (ix2 5 i) = a5
  generalize a (ix2 6 i) = a6
  generalize a (ix2 7 i) = a7
  abel

/-- Row `n` of column `i` of a block (zero past the end). -/
def colAt (e : FVec Ideal S1x2048x2048 .f32) (i : Fin 2048) (n : ℕ) : EReal := if h : n < 2048 then e (ix3 0 ⟨n, h⟩ i) else 0

/-- The carried sums after `n` trips. -/
theorem zrun_apply (e : FVec Ideal S1x2048x2048 .f32) (init : FVec Ideal S8x2048 .f32) (r : Fin 8) (i : Fin 2048) (n : ℕ) (hn : n ≤ 255) :
    zrun (F := Ideal) e init n (ix2 r i) = init (ix2 r i) + ∑ t ∈ Finset.range n, colAt e i (8 * (t + 1) + r.val) := by
  induction n with
  | zero => rw [Finset.range_zero, Finset.sum_empty]; exact (add_zero (show EReal from _)).symm
  | succ n ih =>
    have hr := r.isLt
    have hlt : n < k0_t1_loop.trips := by rw [trips_eq]; omega
    rw [zrun.eq_2, dif_pos hlt, pay4_apply, ih (by omega), rows8_apply _ _ _ _ (show 8 * (n + 1) + r.val < 2048 by omega), Finset.sum_range_succ, ← add_assoc]
    rw [show colAt e i (8 * (n + 1) + r.val) = e (ix3 0 ⟨8 * (n + 1) + r.val, by omega⟩ i) from dif_pos (by omega)]

/-- The second output block is the column sums of the first. -/
theorem zBlk_apply (x0 x1 : FVec Ideal S1x2048x64 .bf16) (i : Fin 2048) :
    zBlk (F := Ideal) x0 x1 (ix3 0 0 i : S1x1x2048.Idx) = ∑ j : Fin 2048, eBlk (F := Ideal) x0 x1 (ix3 0 j i : S1x2048x2048.Idx) := by
  unfold zBlk
  rw [pay5_apply]
  generalize hE : eBlk (F := Ideal) x0 x1 = e
  have h1 : ∀ r : Fin 8, zrun (F := Ideal) e (k0_pay3 x0 x1) 255 (ix2 r i) = ∑ t : Fin 256, colAt e i (t.val * 8 + r.val) := fun r => by
    have hr := r.isLt
    rw [zrun_apply e _ r i 255 le_rfl, pay3_apply x0 x1 r i (by omega), hE,
      (Fin.sum_univ_eq_sum_range (fun t => colAt e i (t * 8 + r.val)) 256).trans (Finset.sum_range_succ' _ 255), add_comm]
    have h0 : colAt e i (0 * 8 + r.val) = e (ix3 0 ⟨r.val, by omega⟩ i) :=
      (dif_pos (by omega)).trans (congrArg (fun q => e (ix3 0 q i)) (Fin.ext (by show 0 * 8 + r.val = r.val; omega)))
    rw [h0]
    refine congrArg (fun z : EReal => z + _) (Finset.sum_congr rfl fun t _ => ?_)
    rw [Nat.mul_comm]
  rw [show (∑ j : Fin 2048, e (ix3 0 j i)) = ∑ j : Fin 2048, colAt e i j.val from
    Finset.sum_congr rfl fun j _ => by unfold colAt; rw [dif_pos j.isLt]]
  rw [Finset.sum_congr rfl fun r _ => h1 r, Finset.sum_comm]
  exact (Fin.sum_univ_tiles 256 8 rfl (fun j : Fin 2048 => colAt e i j.val)).symm

/-- One head of a 12-head array, as a block. -/
def headOf (X : FVec Ideal S12x2048x64 .bf16) (h : Fin 12) : FVec Ideal S1x2048x64 .bf16 := fun y => X (ix3 h (y 1) (y 2))

/-- The array of exponentials, head by head. -/
def eArr (K Q : FVec Ideal S12x2048x64 .bf16) : FVec Ideal S12x2048x2048 .f32 := fun i => eBlk (F := Ideal) (headOf K (i 0)) (headOf Q (i 0)) (ix3 0 (i 1) (i 2))

/-- The array of column sums, head by head. -/
def zArr (K Q : FVec Ideal S12x2048x64 .bf16) : FVec Ideal S12x1x2048 .f32 := fun i => zBlk (F := Ideal) (headOf K (i 0)) (headOf Q (i 0)) (ix3 0 0 (i 2))

variable (V : Valuation τ sig (Elt Ideal))

/-- Point `t` of the first call takes head `t` of each window's array. -/
theorem idx0 : ∀ t : Fin cfg0.N, win0_0.index t = ![t.val, 0, 0] ∧ win0_1.index t = ![t.val, 0, 0] ∧ win0_2.index t = ![t.val, 0, 0] ∧ win0_3.index t = ![t.val, 0, 0] ∧ t.val < 12 :=
  (by decide +kernel : ∀ t : Fin grid0.N, _)

/-- The key block at point `t` is head `t` of the keys. -/
theorem iblk0_0 (t : Fin cfg0.N) : iblk0 V 0 t = headOf (V (Proc.devRef .tc main_v9)) ⟨t.val, (idx0 t).2.2.2.2⟩ := by
  funext y
  blk_simp [iblk0, headOf]
  blk_ext [idx0 t]

/-- The query block at point `t` is head `t` of the queries. -/
theorem iblk0_1 (t : Fin cfg0.N) : iblk0 V 1 t = headOf (V (Proc.devRef .tc main_v4)) ⟨t.val, (idx0 t).2.2.2.2⟩ := by
  funext y
  blk_simp [iblk0, headOf]
  blk_ext [idx0 t]

/-- The first output array ends at the exponentials; -/
theorem e_array (c : Dev nD) : (dat0 V c).arrAt 2 cfg0.N = eArr (V (Proc.devRef .tc main_v9)) (V (Proc.devRef .tc main_v4)) := by
  refine (dat0 V c).arrAt_eq_of_covers 2 _ (by decide +kernel) fun t _ y => ?_
  blk_simp
  rw [after0_2, iblk0_0, iblk0_1]
  have he : (win0_2.blk t).view.emb y = (ix3 ⟨t.val, (idx0 t).2.2.2.2⟩ (y 1) (y 2) : S12x2048x2048.Idx) := by blk_ext [idx0 t]
  rw [he]
  have hy : y = (ix3 0 (y 1) (y 2) : S1x2048x2048.Idx) := by blk_ext [idx0 t]
  exact congrArg (eBlk (F := Ideal) _ _) hy

/-- the second at their column sums. -/
theorem z_array (c : Dev nD) : (dat0 V c).arrAt 3 cfg0.N = zArr (V (Proc.devRef .tc main_v9)) (V (Proc.devRef .tc main_v4)) := by
  refine (dat0 V c).arrAt_eq_of_covers 3 _ (by decide +kernel) fun t _ y => ?_
  blk_simp
  rw [after0_3, iblk0_0, iblk0_1]
  have he : (win0_3.blk t).view.emb y = (ix3 ⟨t.val, (idx0 t).2.2.2.2⟩ 0 (y 2) : S12x1x2048.Idx) := by blk_ext [idx0 t]
  rw [he]
  have hy : y = (ix3 0 0 (y 2) : S1x1x2048.Idx) := by blk_ext [idx0 t]
  exact congrArg (zBlk (F := Ideal) _ _) hy

end Cert.KernelIdeal.Hand

end
-- ==== Proof.HostTerms.lean ====
module

public import proofs.«01_k».proof.Proof.Gen.KernelIdeal.Regions
public import Idealize.ShloMosaic.Lib.StableHlo.RunHlo

/-! What the host's operations between the two calls compute, as functions of the arrays they start from. -/

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]

/-- A head projection: `x @ w`, split into heads. -/
def projOf (x : FVec F S1x2048x768 .f32) (w : FVec F S768x768 .f32) : FVec F S12x2048x64 .bf16 :=
  truncf .bf16 (shapeCast S12x2048x64 (transpose S1x12x2048x64 [0, 2, 1, 3]
    (shapeCast S1x2048x12x64 (Host.dotGeneral dot_S1x2048x768_S768x768_S1x2048x768_2_0_01_1_n_n none x w : FVec F S1x2048x768 .f32) shapeCasts_S1x2048x768_S1x2048x12x64)
    transposes_S1x2048x12x64_S1x12x2048x64_0_2_1_3) shapeCasts_S1x12x2048x64_S12x2048x64) bitsLt_bf16_f32

/-- The softmax weights, keys by queries: exponentials over their column sums. -/
def attnOf (e : FVec F S12x2048x2048 .f32) (z : FVec F S12x1x2048 .f32) : FVec F S12x2048x2048 .f32 :=
  Host.divf e (broadcastInDim S12x2048x2048 ![0, 1, 2] bcast_S12x1x2048_S12x2048x2048_0_1_2
    (broadcastInDim S12x1x2048 ![0, 2] bcast_S12x2048_S12x1x2048_0_2 (shapeCast S12x2048 z shapeCasts_S12x1x2048_S12x2048)))

/-- The mean over the last axis. -/
def meanLast (a : FVec F S12x2048x2048 .f32) : FVec F S12x2048 .f32 :=
  Host.divf (Host.reduceAdd a (constant S_ .f32 0x00000000#32) reducesTo_S12x2048x2048_S12x2048_d2 h_S_)
    (broadcastInDim S12x2048 ![] bcast_S_S12x2048 (constant S_ .f32 0x45000000#32))

/-- The mean over the middle axis. -/
def meanMid (a : FVec F S12x2048x2048 .f32) : FVec F S12x2048 .f32 :=
  Host.divf (Host.reduceAdd a (constant S_ .f32 0x00000000#32) reducesTo_S12x2048x2048_S12x2048_d1 h_S_)
    (broadcastInDim S12x2048 ![] bcast_S_S12x2048 (constant S_ .f32 0x45000000#32))

/-- A negative index counts from the end. -/
def wrapIx (ix : IVec S12x614 32) : IVec S12x614 32 :=
  select (cmpi .slt ix (broadcastInDim S12x614 ![] bcast_S_S12x614 (constantI S_ 32 0#32)))
    (addi ix (broadcastInDim S12x614 ![] bcast_S_S12x614 (constantI S_ 32 2048#32))) ix

/-- The head numbers, likewise wrapped. -/
def heads : IVec S12x1 32 :=
  select (cmpi .slt (broadcastInDim S12x1 ![0] bcast_S12_S12x1_0 (iotaInDim S12 32 0)) (broadcastInDim S12x1 ![] bcast_S_S12x1 (constantI S_ 32 0#32)))
    (addi (broadcastInDim S12x1 ![0] bcast_S12_S12x1_0 (iotaInDim S12 32 0)) (broadcastInDim S12x1 ![] bcast_S_S12x1 (constantI S_ 32 12#32)))
    (broadcastInDim S12x1 ![0] bcast_S12_S12x1_0 (iotaInDim S12 32 0))

/-- Two index columns side by side. -/
def catPair (a b : IVec S12x614x1 32) : IVec S12x614x2 32 :=
  concatenate S12x614x2 2 [⟨S12x614x1, a⟩, ⟨S12x614x1, b⟩] concatenates_S12x614x1_S12x614x1_S12x614x2_d2

/-- The joined columns, folded back into the definition. -/
theorem catPair_eq (a b : IVec S12x614x1 32) :
    concatenate S12x614x2 2 [⟨S12x614x1, a⟩, ⟨S12x614x1, b⟩] concatenates_S12x614x1_S12x614x1_S12x614x2_d2 = catPair a b := rfl

/-- One at each head's 614 largest entries, zero elsewhere. -/
def maskOf (r : FVec F S12x2048 .f32) : FVec F S12x2048 .f32 :=
  Host.scatter scatter_S12x2048_S12x614x2_S12x614_n_01_01_2 (fun _ b => b)
    (broadcastInDim S12x2048 ![] bcast_S_S12x2048 (constant S_ .f32 0x00000000#32))
    (catPair (broadcastInDim S12x614x1 ![0, 1] bcast_S12x614_S12x614x1_0_1 (broadcastInDim S12x614 ![0, 1] bcast_S12x1_S12x614_0_1 heads))
      (broadcastInDim S12x614x1 ![0, 1] bcast_S12x614_S12x614x1_0_1 (wrapIx (Host.topK S12x614 1 (FloatOps.cmpfTotal .gt) r sliceFits_S12x2048_S12x614).2)))
    (broadcastInDim S12x614 ![] bcast_S_S12x614 (constant S_ .f32 0x3F800000#32))

/-- The two masks added: column mask along the middle axis, row mask along the last. -/
def maskSum (cm rm : FVec F S12x2048 .f32) : FVec F S12x2048x2048 .f32 :=
  addf (broadcastInDim S12x2048x2048 ![0, 1, 2] bcast_S12x2048x1_S12x2048x2048_0_1_2 (broadcastInDim S12x2048x1 ![0, 1] bcast_S12x2048_S12x2048x1_0_1 cm))
    (broadcastInDim S12x2048x2048 ![0, 1, 2] bcast_S12x1x2048_S12x2048x2048_0_1_2 (broadcastInDim S12x1x2048 ![0, 2] bcast_S12x2048_S12x1x2048_0_2 rm))

/-- The combined mask: their sum, with two replaced by one. -/
def maskT (cm rm : FVec F S12x2048 .f32) : FVec F S12x2048x2048 .f32 :=
  select (cmpf .oeq (maskSum cm rm) (broadcastInDim S12x2048x2048 ![] bcast_S_S12x2048x2048 (constant S_ .f32 0x40000000#32)))
    (broadcastInDim S12x2048x2048 ![] bcast_S_S12x2048x2048 (constant S_ .f32 0x3F800000#32)) (maskSum cm rm)

/-- The mean over heads, then over the last axis. -/
def meanHeads (s : FVec F S12x2048x2048 .f32) : FVec F S1x2048 .f32 :=
  Host.divf (Host.reduceAdd
      (Host.divf (Host.reduceAdd (shapeCast S1x12x2048x2048 s shapeCasts_S12x2048x2048_S1x12x2048x2048) (constant S_ .f32 0x00000000#32) reducesTo_S1x12x2048x2048_S1x2048x2048_d1 h_S_)
        (broadcastInDim S1x2048x2048 ![] bcast_S_S1x2048x2048 (constant S_ .f32 0x41400000#32)))
      (constant S_ .f32 0x00000000#32) reducesTo_S1x2048x2048_S1x2048_d2 h_S_)
    (broadcastInDim S1x2048 ![] bcast_S_S1x2048 (constant S_ .f32 0x45000000#32))

/-- The places of the 614 largest entries. -/
def locOf (a : FVec F S1x2048 .f32) : IVec S1x614 32 := (Host.topK S1x614 1 (FloatOps.cmpfTotal .gt) a sliceFits_S1x2048_S1x614).2

section
variable (W : Valuation τ sig (Elt F))

set_option maxHeartbeats 4000000 in
/-- The queries; -/
theorem ops0_v4 : after hostOps0 W (Proc.devRef .tc main_v4) = projOf (W (Proc.devRef .tc main_arg0)) (W (Proc.devRef .tc main_arg1)) := by
  after_results_simp <;> rfl
set_option maxHeartbeats 4000000 in
/-- the keys; -/
theorem ops0_v9 : after hostOps0 W (Proc.devRef .tc main_v9) = projOf (W (Proc.devRef .tc main_arg0)) (W (Proc.devRef .tc main_arg2)) := by
  after_results_simp <;> rfl
set_option maxHeartbeats 4000000 in
/-- the values. -/
theorem ops0_v14 : after hostOps0 W (Proc.devRef .tc main_v14) = projOf (W (Proc.devRef .tc main_arg0)) (W (Proc.devRef .tc main_arg3)) := by
  after_results_simp <;> rfl

set_option maxHeartbeats 40000000 in
/-- The weights. -/
theorem ops1_v19 : after hostOps1 W (Proc.devRef .tc main_v19) = attnOf (W (Proc.devRef .tc main_v15_0)) (W (Proc.devRef .tc main_v15_1)) := by
  after_results_simp <;> rfl
/-- The weights of the exponentials and sums a stretch starts from. -/
abbrev attnAt : FVec F S12x2048x2048 .f32 := attnOf (W (Proc.devRef .tc main_v15_0)) (W (Proc.devRef .tc main_v15_1))

set_option maxHeartbeats 1000000 in
/-- The column mask. -/
theorem ops1_v44 : after hostOps1 W (Proc.devRef .tc main_v44) = maskOf (meanLast (attnAt W)) := by
  simp only [hostOps1, catPair_eq]
  after_results_simp
  rfl
set_option maxHeartbeats 1000000 in
/-- The row mask. -/
theorem ops1_v61 : after hostOps1 W (Proc.devRef .tc main_v61) = maskOf (meanMid (attnAt W)) := by
  simp only [hostOps1, catPair_eq]
  after_results_simp
  rfl
set_option maxHeartbeats 1000000 in
/-- Their sum. -/
theorem ops1_v66 : after hostOps1 W (Proc.devRef .tc main_v66) = maskSum (maskOf (meanLast (attnAt W))) (maskOf (meanMid (attnAt W))) := by
  simp only [hostOps1, catPair_eq]
  after_results_simp
  rfl
set_option maxHeartbeats 1000000 in
/-- Where it is two. -/
theorem ops1_v68 : after hostOps1 W (Proc.devRef .tc main_v68)
    = cmpf .oeq (maskSum (maskOf (meanLast (attnAt W))) (maskOf (meanMid (attnAt W)))) (broadcastInDim S12x2048x2048 ![] bcast_S_S12x2048x2048 (constant S_ .f32 0x40000000#32)) := by
  simp only [hostOps1, catPair_eq]
  after_results_simp
  rfl
set_option maxHeartbeats 1000000 in
/-- The one that replaces it. -/
theorem ops1_cst17 : after hostOps1 W (Proc.devRef .tc main_cst_17) = constant S_ .f32 0x3F800000#32 := by
  after_results_simp <;> rfl

set_option maxHeartbeats 1000000 in
/-- The replacement. -/
theorem ops11_v69 : after hostOps1_1 W (Proc.devRef .tc main_v69)
    = select (W (Proc.devRef .tc main_v68)) (broadcastInDim S12x2048x2048 ![] bcast_S_S12x2048x2048 (W (Proc.devRef .tc main_cst_17))) (W (Proc.devRef .tc main_v66)) := by
  simp only [hostOps1_1, TRef.ternary, TRef.unary, TRef.toBuf, TRef.ofBuf, cast_eq]
  after_results_simp <;> rfl

set_option maxHeartbeats 1000000 in
/-- The second result. -/
theorem ops12_loc : after hostOps1_2 W (Proc.devRef .tc main_indices_23)
    = locOf (meanHeads (mulf (W (Proc.devRef .tc main_v19)) (W (Proc.devRef .tc main_v69)))) := by
  after_results_simp <;> rfl
set_option maxHeartbeats 1000000 in
/-- The output weights, head by head. -/
theorem ops12_v79 : after hostOps1_2 W (Proc.devRef .tc main_v79)
    = truncf .bf16 (shapeCast S12x64x768 (W (Proc.devRef .tc main_arg4)) shapeCasts_S768x768_S12x64x768) bitsLt_bf16_f32 := by
  after_results_simp <;> rfl
set_option maxHeartbeats 1000000 in
/-- The column mask as a column. -/
theorem ops12_v80 : after hostOps1_2 W (Proc.devRef .tc main_v80) = shapeCast S12x2048x1 (W (Proc.devRef .tc main_v44)) shapeCasts_S12x2048_S12x2048x1 := by
  after_results_simp <;> rfl
set_option maxHeartbeats 1000000 in
/-- The row mask as a row. -/
theorem ops12_v81 : after hostOps1_2 W (Proc.devRef .tc main_v81) = shapeCast S12x1x2048 (W (Proc.devRef .tc main_v61)) shapeCasts_S12x2048_S12x1x2048 := by
  after_results_simp <;> rfl
set_option maxHeartbeats 1000000 in
/-- The bias as a row. -/
theorem ops12_v82 : after hostOps1_2 W (Proc.devRef .tc main_v82) = shapeCast S1x768 (W (Proc.devRef .tc main_arg5)) shapeCasts_S768_S1x768 := by
  after_results_simp <;> rfl

/-- The first result: the second call's array, transposed. -/
theorem ops2_v85 : after hostOps2 W (Proc.devRef .tc main_v85)
    = transpose S1x768x2048 [0, 2, 1] (shapeCast S1x2048x768 (W (Proc.devRef .tc main_v83)) shapeCasts_S2048x768_S1x2048x768) transposes_S1x2048x768_S1x768x2048_0_2_1 := by
  after_results_simp <;> rfl
end

end Cert.KernelIdeal.Hand

end
-- ==== Proof.Reference.lean ====
module

public import proofs.«01_k».proof.Proof.Value0
public import proofs.«01_k».proof.Proof.HostTerms
public import proofs.«01_k».proof.Proof.Gen.ReferenceIdeal.Read

/-! The host's terms over the extended reals, against the reference's values. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.Read

variable (x : FVec Ideal S1x2048x768 .f32) (wq wk wv wo : FVec Ideal S768x768 .f32)

/-- The reference's scaled scores. -/
theorem v14_apply (h : Fin 12) (i j : Fin 2048) :
    val_main_v14 (F := Ideal) x wq wk (ix3 h i j : S12x2048x2048.Idx)
      = (∑ k : Fin 64, val_main_v5 (F := Ideal) x wq (ix3 h i k) * val_main_v8 (F := Ideal) x wk (ix3 h j k)) * Ideal.ofBits .f32 0x3E000000#32 := by
  pointwise [val_main_v14, val_main_v13, val_main_v12, val_main_cst]

/-- A row's maximum. -/
theorem reduceMax_apply (a : FVec Ideal S12x2048x2048 .f32) (h : Fin 12) (i : Fin 2048) :
    (Host.reduce (FloatOps.maximumf (F := Ideal)) a (constant (F := Ideal) S_ .f32 0xFF800000#32) reducesTo_S12x2048x2048_S12x2048_d2 h_S_ : FVec Ideal S12x2048 .f32) (ix2 h i : S12x2048.Idx)
      = Finset.fold max (Ideal.ofBits .f32 0xFF800000#32) (fun j : Fin 2048 => a (ix3 h i j)) Finset.univ := by
  pointwise []

/-- The row maximum of the reference's scores. -/
theorem v17_apply (h : Fin 12) (i : Fin 2048) :
    val_main_v17 (F := Ideal) x wq wk (ix2 h i : S12x2048.Idx)
      = Finset.fold max (Ideal.ofBits .f32 0xFF800000#32) (fun j : Fin 2048 => val_main_v14 (F := Ideal) x wq wk (ix3 h i j)) Finset.univ := by
  rw [val_main_v17_apply, val_main_v16_apply, val_main_cst_1_apply]
  unfold val_main_v15 val_main_cst_0
  refine (congrArg (FloatOps.maximumf _) (reduceMax_apply (val_main_v14 (F := Ideal) x wq wk) h i)).trans ?_
  exact max_eq_right ((Finset.le_fold_max _).2 (Or.inl le_rfl))

/-- The reference's exponentials. -/
theorem v21_apply (h : Fin 12) (i j : Fin 2048) :
    val_main_v21 (F := Ideal) x wq wk (ix3 h i j : S12x2048x2048.Idx)
      = Ideal.exp (val_main_v14 (F := Ideal) x wq wk (ix3 h i j) - val_main_v17 (F := Ideal) x wq wk (ix2 h i)) := by
  pointwise [val_main_v21, val_main_v20, val_main_v19, val_main_v18]

/-- The reference's weights. -/
theorem v25_apply (h : Fin 12) (i j : Fin 2048) :
    val_main_v25 (F := Ideal) x wq wk (ix3 h i j : S12x2048x2048.Idx)
      = Ideal.div (val_main_v21 (F := Ideal) x wq wk (ix3 h i j)) (∑ j' : Fin 2048, val_main_v21 (F := Ideal) x wq wk (ix3 h i j')) := by
  pointwise [val_main_v25, val_main_v24, val_main_v23, val_main_v22, val_main_cst_2]

/-- The kernel's weights at an index. -/
theorem attnOf_apply (e : FVec Ideal S12x2048x2048 .f32) (z : FVec Ideal S12x1x2048 .f32) (h : Fin 12) (j i : Fin 2048) :
    attnOf (F := Ideal) e z (ix3 h j i : S12x2048x2048.Idx) = Ideal.div (e (ix3 h j i)) (z (ix3 h 0 i)) := by
  pointwise [attnOf]

/-- The queries are the reference's; -/
theorem proj_q (i : S12x2048x64.Idx) : projOf (F := Ideal) x wq i = val_main_v5 (F := Ideal) x wq i := rfl
/-- the keys too; -/
theorem proj_k (i : S12x2048x64.Idx) : projOf (F := Ideal) x wk i = val_main_v8 (F := Ideal) x wk i := rfl
/-- and the values. -/
theorem proj_v (i : S12x2048x64.Idx) : projOf (F := Ideal) x wv i = val_main_v11 (F := Ideal) x wv i := rfl

/-- The kernel's exponentials are the reference's, transposed. -/
theorem e_ref (h : Fin 12) (j i : Fin 2048) :
    eBlk (F := Ideal) (headOf (projOf x wk) h) (headOf (projOf x wq) h) (ix3 0 j i : S1x2048x2048.Idx) = val_main_v21 (F := Ideal) x wq wk (ix3 h i j) := by
  have score (j' : Fin 2048) : (∑ k : Fin 64, headOf (projOf (F := Ideal) x wk) h (ix3 0 j' k) * headOf (projOf (F := Ideal) x wq) h (ix3 0 i k)) * Ideal.ofBits .f32 0x3E000000#32
      = val_main_v14 (F := Ideal) x wq wk (ix3 h i j') := by
    rw [v14_apply]
    refine congrArg (fun z : EReal => z * _) (Finset.sum_congr rfl fun k _ => ?_)
    exact mul_comm (show EReal from val_main_v8 (F := Ideal) x wk (ix3 h j' k)) (val_main_v5 (F := Ideal) x wq (ix3 h i k))
  rw [eBlk_apply, v21_apply, v17_apply, score]
  simp only [score]

/-- The kernel's weights are the reference's, transposed. -/
theorem attn_ref (h : Fin 12) (j i : Fin 2048) :
    attnOf (F := Ideal) (eArr (projOf x wk) (projOf x wq)) (zArr (projOf x wk) (projOf x wq)) (ix3 h j i : S12x2048x2048.Idx)
      = val_main_v25 (F := Ideal) x wq wk (ix3 h i j) := by
  rw [attnOf_apply, v25_apply]
  refine congrArg₂ Ideal.div (e_ref x wq wk h j i) ?_
  exact (zBlk_apply _ _ i).trans (Finset.sum_congr rfl fun j' _ => e_ref x wq wk h j' i)
/-- The mean over the last axis. -/
theorem meanLast_apply (a : FVec Ideal S12x2048x2048 .f32) (h : Fin 12) (j : Fin 2048) :
    meanLast (F := Ideal) a (ix2 h j : S12x2048.Idx) = Ideal.div (∑ i : Fin 2048, a (ix3 h j i)) (Ideal.ofBits .f32 0x45000000#32) := by
  pointwise [meanLast]
/-- The mean over the middle axis. -/
theorem meanMid_apply (a : FVec Ideal S12x2048x2048 .f32) (h : Fin 12) (i : Fin 2048) :
    meanMid (F := Ideal) a (ix2 h i : S12x2048.Idx) = Ideal.div (∑ j : Fin 2048, a (ix3 h j i)) (Ideal.ofBits .f32 0x45000000#32) := by
  pointwise [meanMid]
/-- The reference's mean over queries. -/
theorem v28_apply (h : Fin 12) (j : Fin 2048) :
    val_main_v28 (F := Ideal) x wq wk (ix2 h j : S12x2048.Idx)
      = Ideal.div (∑ i : Fin 2048, val_main_v25 (F := Ideal) x wq wk (ix3 h i j)) (Ideal.ofBits .f32 0x45000000#32) := by
  pointwise [val_main_v28, val_main_v26, val_main_v27, val_main_cst_3, val_main_cst_4]
/-- The reference's mean over keys. -/
theorem v31_apply (h : Fin 12) (i : Fin 2048) :
    val_main_v31 (F := Ideal) x wq wk (ix2 h i : S12x2048.Idx)
      = Ideal.div (∑ j : Fin 2048, val_main_v25 (F := Ideal) x wq wk (ix3 h i j)) (Ideal.ofBits .f32 0x45000000#32) := by
  pointwise [val_main_v31, val_main_v29, val_main_v30, val_main_cst_5, val_main_cst_6]

/-- The combined mask at an index. -/
theorem maskT_apply (cm rm : FVec Ideal S12x2048 .f32) (h : Fin 12) (j i : Fin 2048) :
    maskT (F := Ideal) cm rm (ix3 h j i : S12x2048x2048.Idx)
      = if (cm (ix2 h j) + rm (ix2 h i) : EReal) = Ideal.ofBits .f32 0x40000000#32 then (1 : EReal) else cm (ix2 h j) + rm (ix2 h i) := by
  pointwise [maskT, maskSum]
/-- The reference's combined mask. -/
theorem v75_apply (h : Fin 12) (i j : Fin 2048) :
    val_main_v75 (F := Ideal) x wq wk (ix3 h i j : S12x2048x2048.Idx)
      = if (val_main_v50 (F := Ideal) x wq wk (ix2 h j) + val_main_v67 (F := Ideal) x wq wk (ix2 h i) : EReal) = Ideal.ofBits .f32 0x40000000#32 then (1 : EReal)
        else val_main_v50 (F := Ideal) x wq wk (ix2 h j) + val_main_v67 (F := Ideal) x wq wk (ix2 h i) := by
  pointwise [val_main_v75, val_main_call0_v1, val_main_call0_v0, id, val_main_cst_21, val_main_cst_20, val_main_v74, val_main_v73, val_main_v72, val_main_v71, val_main_v70, val_main_v69, val_main_v68]

/-- The mean over heads and queries. -/
theorem meanHeads_apply (s : FVec Ideal S12x2048x2048 .f32) (j : Fin 2048) :
    meanHeads (F := Ideal) s (ix2 0 j : S1x2048.Idx)
      = Ideal.div (∑ i : Fin 2048, Ideal.div (∑ h : Fin 12, s (ix3 h j i)) (Ideal.ofBits .f32 0x41400000#32)) (Ideal.ofBits .f32 0x45000000#32) := by
  pointwise [meanHeads]
/-- The reference's mean over heads and queries. -/
theorem v83_apply (j : Fin 2048) :
    val_main_v83 (F := Ideal) x wq wk (ix2 0 j : S1x2048.Idx)
      = Ideal.div (∑ i : Fin 2048, Ideal.div (∑ h : Fin 12, val_main_v76 (F := Ideal) x wq wk (ix3 h i j)) (Ideal.ofBits .f32 0x41400000#32)) (Ideal.ofBits .f32 0x45000000#32) := by
  pointwise [val_main_v83, val_main_v82, val_main_v81, val_main_v80, val_main_v79, val_main_v78, val_main_v77, val_main_cst_22, val_main_cst_23, val_main_cst_24, val_main_cst_25]
/-- The reference's second result, of its means. -/
theorem ref_loc : val_main_indices_27 (F := Ideal) x wq wk = locOf (F := Ideal) (val_main_v83 (F := Ideal) x wq wk) := rfl
/-- The reference's column mask. -/
theorem ref_cm : val_main_v50 (F := Ideal) x wq wk = maskOf (F := Ideal) (val_main_v28 (F := Ideal) x wq wk) := rfl
/-- The reference's row mask. -/
theorem ref_rm : val_main_v67 (F := Ideal) x wq wk = maskOf (F := Ideal) (val_main_v31 (F := Ideal) x wq wk) := rfl

/-- A transpose of the reference's weights has its mean over queries along the last axis; -/
theorem meanLast_ref (a : FVec Ideal S12x2048x2048 .f32) (ha : ∀ h j i, a (ix3 h j i) = val_main_v25 (F := Ideal) x wq wk (ix3 h i j)) :
    meanLast (F := Ideal) a = val_main_v28 (F := Ideal) x wq wk := by
  funext i
  obtain ⟨h, j, rfl⟩ : ∃ (h : Fin 12) (j : Fin 2048), i = (ix2 h j : S12x2048.Idx) := ⟨i 0, i 1, eq_ix2 i⟩
  rw [meanLast_apply, v28_apply]
  exact congrArg (Ideal.div · _) (Finset.sum_congr rfl fun k _ => ha h j k)

/-- its mean over keys along the middle axis; -/
theorem meanMid_ref (a : FVec Ideal S12x2048x2048 .f32) (ha : ∀ h j i, a (ix3 h j i) = val_main_v25 (F := Ideal) x wq wk (ix3 h i j)) :
    meanMid (F := Ideal) a = val_main_v31 (F := Ideal) x wq wk := by
  funext i
  obtain ⟨h, j, rfl⟩ : ∃ (h : Fin 12) (j : Fin 2048), i = (ix2 h j : S12x2048.Idx) := ⟨i 0, i 1, eq_ix2 i⟩
  rw [meanMid_apply, v31_apply]
  exact congrArg (Ideal.div · _) (Finset.sum_congr rfl fun k _ => ha h k j)

/-- and a transpose of the masked weights has the reference's mean over heads and queries. -/
theorem meanHeads_ref (a : FVec Ideal S12x2048x2048 .f32) (ha : ∀ h j i, a (ix3 h j i) = val_main_v76 (F := Ideal) x wq wk (ix3 h i j)) :
    meanHeads (F := Ideal) a = val_main_v83 (F := Ideal) x wq wk := by
  funext i
  obtain ⟨j, rfl⟩ : ∃ j : Fin 2048, i = (ix2 0 j : S1x2048.Idx) :=
    ⟨i 1, (eq_ix2 i).trans (congrArg (fun a : Fin 1 => (ix2 a (i 1) : S1x2048.Idx)) (Subsingleton.elim _ _))⟩
  rw [meanHeads_apply, v83_apply]
  exact congrArg (Ideal.div · _) (Finset.sum_congr rfl fun k _ => congrArg (Ideal.div · _) (Finset.sum_congr rfl fun h _ => ha h j k))
/-- The bias, broadcast. -/
theorem v90_apply (b : FVec Ideal S768 .f32) (c : Fin 768) (n : Fin 2048) :
    val_main_v90 (F := Ideal) b (ix3 0 n c : S1x2048x768.Idx) = b (ix1 c) := by
  pointwise [val_main_v90, val_main_v89]
/-- The transposed sum. -/
theorem v92_apply (b : FVec Ideal S768 .f32) (c : Fin 768) (n : Fin 2048) :
    val_main_v92 (F := Ideal) x wq wk wv wo b (ix3 0 c n : S1x768x2048.Idx)
      = (val_main_v88 (F := Ideal) x wq wk wv wo (ix3 0 n c : S1x2048x768.Idx) + b (ix1 c) : EReal) := by
  have hi : idx_main_v92 (ix3 0 c n : S1x768x2048.Idx) = (ix3 0 n c : S1x2048x768.Idx) := funext fun a => match a with
    | ⟨0, _⟩ => rfl
    | ⟨1, _⟩ => rfl
    | ⟨2, _⟩ => rfl
  rw [val_main_v92_apply, hi, val_main_v91_apply, v90_apply]
  exact Ideal.addf_def _ _
/-- The output projection. -/
theorem v88_apply (c : Fin 768) (n : Fin 2048) :
    val_main_v88 (F := Ideal) x wq wk wv wo (ix3 0 n c : S1x2048x768.Idx)
      = ∑ k : Fin 768, val_main_v87 (F := Ideal) x wq wk wv (ix3 0 n k) * wo (ix2 k c) := by
  pointwise [val_main_v88]
/-- A head's weighted values. -/
theorem v84_apply (h : Fin 12) (i : Fin 2048) (d : Fin 64) :
    val_main_v84 (F := Ideal) x wq wk wv (ix3 h i d : S12x2048x64.Idx)
      = ∑ j : Fin 2048, val_main_v76 (F := Ideal) x wq wk (ix3 h i j) * val_main_v11 (F := Ideal) x wv (ix3 h j d) := by
  pointwise [val_main_v84]
/-- The heads side by side. -/
theorem v87_apply (n : Fin 2048) (h : Fin 12) (d : Fin 64) (hk : h.val * 64 + d.val < 768) :
    val_main_v87 (F := Ideal) x wq wk wv (ix3 0 n ⟨h.val * 64 + d.val, hk⟩ : S1x2048x768.Idx) = val_main_v84 (F := Ideal) x wq wk wv (ix3 h n d) := by
  pointwise [val_main_v87, val_main_v86, val_main_v85]
/-- The reference's first result: every head's weighted values through its slice of the output weights, plus the bias. -/
theorem ref_out (b : FVec Ideal S768 .f32) (c : Fin 768) (n : Fin 2048) :
    val_main_v92 (F := Ideal) x wq wk wv wo b (ix3 0 c n : S1x768x2048.Idx)
      = ((∑ h : Fin 12, ∑ d : Fin 64, (∑ j : Fin 2048, val_main_v76 (F := Ideal) x wq wk (ix3 h n j) * val_main_v11 (F := Ideal) x wv (ix3 h j d))
          * wo (ix2 ⟨h.val * 64 + d.val, by omega⟩ c)) + b (ix1 c) : EReal) := by
  rw [v92_apply, v88_apply]
  refine congrArg (fun z : EReal => z + b (ix1 c)) ((Fin.sum_univ_tiles 12 64 rfl _).trans ?_)
  refine Finset.sum_congr rfl fun h _ => Finset.sum_congr rfl fun d _ => ?_
  rw [← v84_apply, ← v87_apply x wq wk wv n h d (by omega)]

end Cert.KernelIdeal.Hand

end
-- ==== Proof.Results.lean ====
module

public import proofs.«01_k».proof.Proof.WholeRun
public import proofs.«01_k».proof.Proof.Value1
public import proofs.«01_k».proof.Proof.Reference

/-! The kernel's two results as functions of its arguments, and that they are the reference's. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read

section
variable (V : Valuation τ sig (Elt Ideal))

/-- The second call's output array: the last output block. -/
def outArr : FVec Ideal S2048x768 .f32 := fun i => (∑ h : Fin 12, headOut V h (i 0) (i 1)) + bias V (i 1)

/-- The output array at an index. -/
theorem outArr_apply (n : Fin 2048) (k : Fin 768) : outArr V (ix2 n k : S2048x768.Idx) = ((∑ h : Fin 12, headOut V h n k) + bias V k : EReal) := rfl

/-- The second call leaves it. -/
theorem out_array (c : Dev nD) : (dat1 V c).arrAt 7 cfg1.N = outArr V := by
  refine (dat1 V c).arrAt_eq_of_after_last 7 (pt 11 3) (by decide +kernel) _ fun j => ?_
  idx_vars j
  rw [after1_7]
  exact outv_end V j0 j1
end
variable (m : (ℓ : Loc nD τ sig) → Buf (Elt Ideal) ℓ) (c : Dev nD)

/-- The activations. -/
abbrev argX : FVec Ideal S1x2048x768 .f32 := m ((c.tc : Thread nD τ).loc main_arg0)
/-- The query weights. -/
abbrev argQ : FVec Ideal S768x768 .f32 := m ((c.tc : Thread nD τ).loc main_arg1)
/-- The key weights. -/
abbrev argK : FVec Ideal S768x768 .f32 := m ((c.tc : Thread nD τ).loc main_arg2)
/-- The value weights. -/
abbrev argV : FVec Ideal S768x768 .f32 := m ((c.tc : Thread nD τ).loc main_arg3)
/-- The output weights. -/
abbrev argO : FVec Ideal S768x768 .f32 := m ((c.tc : Thread nD τ).loc main_arg4)
/-- The bias. -/
abbrev argB : FVec Ideal S768 .f32 := m ((c.tc : Thread nD τ).loc main_arg5)

/-- The queries after the first stretch. -/
theorem V1_q : V1 m c (Proc.devRef .tc main_v4) = projOf (F := Ideal) (argX m c) (argQ m c) := ops0_v4 (F := Ideal) (V0 m c)
/-- The keys after the first stretch. -/
theorem V1_k : V1 m c (Proc.devRef .tc main_v9) = projOf (F := Ideal) (argX m c) (argK m c) := ops0_v9 (F := Ideal) (V0 m c)
/-- The values after the first stretch. -/
theorem V1_v : V1 m c (Proc.devRef .tc main_v14) = projOf (F := Ideal) (argX m c) (argV m c) := ops0_v14 (F := Ideal) (V0 m c)

/-- The exponentials of the arguments. -/
abbrev expA : FVec Ideal S12x2048x2048 .f32 := eArr (projOf (F := Ideal) (argX m c) (argK m c)) (projOf (F := Ideal) (argX m c) (argQ m c))
/-- Their column sums. -/
abbrev sumA : FVec Ideal S12x1x2048 .f32 := zArr (projOf (F := Ideal) (argX m c) (argK m c)) (projOf (F := Ideal) (argX m c) (argQ m c))

/-- The first call leaves the exponentials -/
theorem V2_e : V2 m (outs m) c (Proc.devRef .tc main_v15_0) = expA m c := by
  rw [← after0_eq]
  refine (Pipeline.afterRegion_arr _ _ launch0.win.arr_inj 2).trans ((e_array (V1 m c) c).trans ?_)
  rw [V1_q, V1_k]
/-- and their column sums. -/
theorem V2_z : V2 m (outs m) c (Proc.devRef .tc main_v15_1) = sumA m c := by
  rw [← after0_eq]
  refine (Pipeline.afterRegion_arr _ _ launch0.win.arr_inj 3).trans ((z_array (V1 m c) c).trans ?_)
  rw [V1_q, V1_k]

/-- The kernel's weights, keys by queries. -/
abbrev attnA : FVec Ideal S12x2048x2048 .f32 := attnOf (F := Ideal) (expA m c) (sumA m c)
/-- Its column mask. -/
abbrev colA : FVec Ideal S12x2048 .f32 := maskOf (F := Ideal) (meanLast (attnA m c))
/-- Its row mask. -/
abbrev rowA : FVec Ideal S12x2048 .f32 := maskOf (F := Ideal) (meanMid (attnA m c))

/-- Their quotient is the weights. -/
theorem attnAt_eq : attnAt (V2 m (outs m) c) = attnA m c := by
  unfold attnAt; rw [V2_e, V2_z]

/-- The weights after the second stretch; -/
theorem V3_attn : V3 m (outs m) c (Proc.devRef .tc main_v19) = attnA m c := (ops1_v19 (V2 m (outs m) c)).trans (attnAt_eq m c)
/-- the column mask; -/
theorem V3_col : V3 m (outs m) c (Proc.devRef .tc main_v44) = colA m c := (ops1_v44 (V2 m (outs m) c)).trans (by rw [attnAt_eq])
/-- the row mask. -/
theorem V3_row : V3 m (outs m) c (Proc.devRef .tc main_v61) = rowA m c := (ops1_v61 (V2 m (outs m) c)).trans (by rw [attnAt_eq])

/-- The combined mask after the second stretch. -/
theorem V4_mask : V4 m (outs m) c (Proc.devRef .tc main_v69) = maskT (F := Ideal) (colA m c) (rowA m c) := by
  refine (ops11_v69 (V3 m (outs m) c)).trans ?_
  rw [show V3 m (outs m) c (Proc.devRef .tc main_v68) = _ from ops1_v68 (V2 m (outs m) c),
    show V3 m (outs m) c (Proc.devRef .tc main_v66) = _ from ops1_v66 (V2 m (outs m) c),
    show V3 m (outs m) c (Proc.devRef .tc main_cst_17) = _ from ops1_cst17 (V2 m (outs m) c), attnAt_eq]
  rfl

/-- The second result. -/
theorem V7_loc : V7 m (outs m) c (Proc.devRef .tc main_indices_23) = locOf (meanHeads (F := Ideal) (mulf (attnA m c) (maskT (F := Ideal) (colA m c) (rowA m c)))) := by
  refine (V7_of m (outs m) c main_indices_23 (by decide)).trans ((V6_of m (outs m) c main_indices_23 (by decide)).trans ((ops12_loc (V4 m (outs m) c)).trans ?_))
  rw [V4_mask, show V4 m (outs m) c (Proc.devRef .tc main_v19) = _ from (V4_of m (outs m) c main_v19 (by decide)).trans (V3_attn m c)]

/-- The second call reads the exponentials; -/
theorem V5_e : V5 m (outs m) c (Proc.devRef .tc main_v15_0) = expA m c :=
  (V5_of m (outs m) c main_v15_0 (by decide)).trans ((V4_of m (outs m) c main_v15_0 (by decide)).trans ((V3_of m (outs m) c main_v15_0 (by decide)).trans (V2_e m c)))
/-- The second call reads the column sums; -/
theorem V5_z : V5 m (outs m) c (Proc.devRef .tc main_v15_1) = sumA m c :=
  (V5_of m (outs m) c main_v15_1 (by decide)).trans ((V4_of m (outs m) c main_v15_1 (by decide)).trans ((V3_of m (outs m) c main_v15_1 (by decide)).trans (V2_z m c)))
/-- the values; -/
theorem V5_v : V5 m (outs m) c (Proc.devRef .tc main_v14) = projOf (F := Ideal) (argX m c) (argV m c) :=
  (V5_of m (outs m) c main_v14 (by decide)).trans ((V4_of m (outs m) c main_v14 (by decide)).trans ((V3_of m (outs m) c main_v14 (by decide)).trans ((V2_of m (outs m) c main_v14 (by decide)).trans (V1_v m c))))
/-- An argument reaches the third stretch as launched. -/
theorem V4_arg (r : Ref sig .tc) (h0 : r ∉ hostOps0_W) (h1 : r ∉ ([main_v15_0, main_v15_1] : List (Ref sig .tc))) (h2 : r ∉ hostOps1_W) (h3 : r ∉ hostOps1_1_W) :
    V4 m (outs m) c (Proc.devRef .tc r) = m (c, Proc.devRef .tc r) :=
  (V4_of m (outs m) c r h3).trans ((V3_of m (outs m) c r h2).trans ((V2_of m (outs m) c r h1).trans (V1_of m c r h0)))
/-- The second call reads the output weights, head by head; -/
theorem V5_wo : V5 m (outs m) c (Proc.devRef .tc main_v79) = truncf .bf16 (shapeCast S12x64x768 (argO m c) shapeCasts_S768x768_S12x64x768) bitsLt_bf16_f32 := by
  refine (ops12_v79 (V4 m (outs m) c)).trans ?_
  rw [V4_arg m c main_arg4 (by decide) (by decide) (by decide) (by decide)]
/-- the bias as a row; -/
theorem V5_bias : V5 m (outs m) c (Proc.devRef .tc main_v82) = shapeCast S1x768 (argB m c) shapeCasts_S768_S1x768 := by
  refine (ops12_v82 (V4 m (outs m) c)).trans ?_
  rw [V4_arg m c main_arg5 (by decide) (by decide) (by decide) (by decide)]
/-- the column mask as a column; -/
theorem V5_col : V5 m (outs m) c (Proc.devRef .tc main_v80) = shapeCast S12x2048x1 (colA m c) shapeCasts_S12x2048_S12x2048x1 := by
  refine (ops12_v80 (V4 m (outs m) c)).trans ?_
  rw [show V4 m (outs m) c (Proc.devRef .tc main_v44) = _ from (V4_of m (outs m) c main_v44 (by decide)).trans (V3_col m c)]
/-- the row mask as a row. -/
theorem V5_row : V5 m (outs m) c (Proc.devRef .tc main_v81) = shapeCast S12x1x2048 (rowA m c) shapeCasts_S12x2048_S12x1x2048 := by
  refine (ops12_v81 (V4 m (outs m) c)).trans ?_
  rw [show V4 m (outs m) c (Proc.devRef .tc main_v61) = _ from (V4_of m (outs m) c main_v61 (by decide)).trans (V3_row m c)]

/-- The weights are the reference's, transposed. -/
theorem attnA_ref (h : Fin 12) (j i : Fin 2048) :
    attnA m c (ix3 h j i : S12x2048x2048.Idx) = val_main_v25 (F := Ideal) (argX m c) (argQ m c) (argK m c) (ix3 h i j) :=
  attn_ref (argX m c) (argQ m c) (argK m c) h j i

/-- The column masks agree; -/
theorem colA_ref : colA m c = val_main_v50 (F := Ideal) (argX m c) (argQ m c) (argK m c) :=
  (congrArg (maskOf (F := Ideal)) (meanLast_ref (argX m c) (argQ m c) (argK m c) (attnA m c) (attnA_ref m c))).trans (ref_cm (argX m c) (argQ m c) (argK m c)).symm

/-- the row masks too. -/
theorem rowA_ref : rowA m c = val_main_v67 (F := Ideal) (argX m c) (argQ m c) (argK m c) :=
  (congrArg (maskOf (F := Ideal)) (meanMid_ref (argX m c) (argQ m c) (argK m c) (attnA m c) (attnA_ref m c))).trans (ref_rm (argX m c) (argQ m c) (argK m c)).symm

/-- The masked weights agree, transposed. -/
theorem masked_ref (h : Fin 12) (j i : Fin 2048) :
    (mulf (attnA m c) (maskT (F := Ideal) (colA m c) (rowA m c)) : FVec Ideal S12x2048x2048 .f32) (ix3 h j i)
      = val_main_v76 (F := Ideal) (argX m c) (argQ m c) (argK m c) (ix3 h i j) := by
  rw [val_main_v76_apply, v75_apply, ← attnA_ref, ← colA_ref, ← rowA_ref]
  exact congrArg (fun z : EReal => attnA m c (ix3 h j i) * z) (maskT_apply _ _ h j i)

/-- The second results agree. -/
theorem loc_ref : V7 m (outs m) c (Proc.devRef .tc main_indices_23) = val_main_indices_27 (F := Ideal) (argX m c) (argQ m c) (argK m c) := by
  rw [V7_loc, ref_loc]
  exact congrArg (locOf (F := Ideal)) (meanHeads_ref (argX m c) (argQ m c) (argK m c) _ (masked_ref m c))

/-- What the second call multiplies the values by is the reference's masked weight. -/
theorem wgt_ref (h : Fin 12) (j n : Fin 2048) :
    wgt (V5 m (outs m) c) h j n = val_main_v76 (F := Ideal) (argX m c) (argQ m c) (argK m c) (ix3 h n j) := by
  rw [← masked_ref]
  have hc : (shapeCast S12x2048x1 (colA m c) shapeCasts_S12x2048_S12x2048x1 : FVec Ideal S12x2048x1 .f32) (ix3 h j 0) = colA m c (ix2 h j) := by
    generalize colA m c = y
    pointwise []
  have hr : (shapeCast S12x1x2048 (rowA m c) shapeCasts_S12x2048_S12x1x2048 : FVec Ideal S12x1x2048 .f32) (ix3 h 0 n) = rowA m c (ix2 h n) := by
    generalize rowA m c = y
    pointwise []
  unfold wgt
  rw [V5_e, V5_z, V5_col, V5_row]
  dsimp only
  rw [hc, hr]
  exact congrArg₂ (fun a b : EReal => a * b) (attnOf_apply (expA m c) (sumA m c) h j n).symm (maskT_apply _ _ h j n).symm

/-- The values are the reference's. -/
theorem vals_ref (h : Fin 12) (j : Fin 2048) (d : Fin 64) :
    vals (V5 m (outs m) c) h j d = val_main_v11 (F := Ideal) (argX m c) (argV m c) (ix3 h j d) := by
  unfold vals
  rw [V5_v]
  exact proj_v _ _ _

/-- The output weights, head by head. -/
theorem wout_ref (h : Fin 12) (d : Fin 64) (k : Fin 768) :
    wout (V5 m (outs m) c) h d k = argO m c (ix2 ⟨h.val * 64 + d.val, by omega⟩ k) := by
  unfold wout
  rw [V5_wo]
  generalize argO m c = y
  pointwise []

/-- The bias. -/
theorem bias_ref (k : Fin 768) : bias (V5 m (outs m) c) k = argB m c (ix1 k) := by
  unfold bias
  rw [V5_bias]
  generalize argB m c = y
  pointwise []

/-- The second call's output array, as the last stretch finds it. -/
theorem V6_out : V6 m (outs m) c (Proc.devRef .tc main_v83) = outArr (V5 m (outs m) c) := by
  rw [← after1_eq]
  exact (Pipeline.afterRegion_arr _ _ launch1.win.arr_inj 7).trans (out_array _ c)

/-- The first results agree. -/
theorem out_ref : V7 m (outs m) c (Proc.devRef .tc main_v85)
    = val_main_v92 (F := Ideal) (argX m c) (argQ m c) (argK m c) (argV m c) (argO m c) (argB m c) := by
  refine (ops2_v85 (V6 m (outs m) c)).trans ?_
  rw [V6_out]
  funext i
  obtain ⟨k, n, rfl⟩ : ∃ (k : Fin 768) (n : Fin 2048), i = (ix3 0 k n : S1x768x2048.Idx) :=
    ⟨i 1, i 2, (eq_ix3 i).trans (congrArg (fun a : Fin 1 => (ix3 a (i 1) (i 2) : S1x768x2048.Idx)) (Subsingleton.elim _ _))⟩
  rw [ref_out]
  have ht (o : FVec Ideal S2048x768 .f32) :
      (transpose S1x768x2048 [0, 2, 1] (shapeCast S1x2048x768 o shapeCasts_S2048x768_S1x2048x768) transposes_S1x2048x768_S1x768x2048_0_2_1 : FVec Ideal S1x768x2048 .f32) (ix3 0 k n) = o (ix2 n k) := by
    pointwise []
  rw [ht, outArr_apply]
  refine congrArg₂ (fun a b : EReal => a + b) (Finset.sum_congr rfl fun h _ => Finset.sum_congr rfl fun d _ => ?_) (bias_ref m c k)
  rw [← wout_ref]
  refine congrArg (fun z : EReal => z * _) (Finset.sum_congr rfl fun j _ => ?_)
  rw [wgt_ref, vals_ref]

end Cert.KernelIdeal.Hand

end
-- ==== Proof.Algebraic.lean ====
module

public import proofs.«01_k».proof.Defs
public import proofs.«01_k».proof.Proof.Results
public import proofs.«01_k».proof.Proof.Gen.ReferenceIdeal.Run

/-! The value claim: over the extended reals the kernel's two results are the reference's. -/

@[expose] public section

set_option maxRecDepth 16384

noncomputable section

namespace Cert.Proof

open Idealize.ShloMosaic Idealize.SL.Sem
open Cert.KernelIdeal.Hand (outs run_whole out_ref loc_ref)
open Cert.KernelIdeal.Gen (V7)

/-- From memories that agree on the six arguments, kernel and reference both end with the same two results, equal
    element by element, and with their arguments unchanged. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => V7 m (outs m) c (Proc.devRef .tc Cert.KernelIdeal.main_v85), fun c => V7 m (outs m) c (Proc.devRef .tc Cert.KernelIdeal.main_indices_23),
    (θ_run _ _ _).mono (fun _ h c => ⟨(h.1 c).2.1, (h.1 c).2.2, (h.1 c).1⟩) (run_whole (F := Ideal) m g),
    (θ_run _ _ _).mono (fun _ h c => ⟨(h c).1.trans ?_, (h c).2.1.trans ?_, (h c).2.2⟩) (Cert.ReferenceIdeal.Value.run (F := Ideal) m' g')⟩
  · obtain ⟨h0, h1, h2, h3, h4, h5⟩ := hag c
    rw [Cert.ReferenceIdeal.Read.val_main_v92_eq, h0, h1, h2, h3, h4, h5]
    exact (out_ref m c).symm
  · obtain ⟨h0, h1, h2, h3, h4, h5⟩ := hag c
    rw [Cert.ReferenceIdeal.Read.val_main_indices_27_eq, h0, h1, h2]
    exact (loc_ref m c).symm

end Cert.Proof

end
-- ==== Proof.lean ====
module

public import proofs.«01_k».proof.Defs
public import proofs.«01_k».proof.Proof.Frames
public import proofs.«01_k».proof.Proof.Algebraic
public import proofs.«01_k».proof.Proof.Gen.ReferenceIdeal.Read

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof

end
